-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x4096 : Shape := ⟨2, ![2048, 4096]⟩
abbrev S4096x2048 : Shape := ⟨2, ![4096, 2048]⟩
abbrev S512x2048 : Shape := ⟨2, ![512, 2048]⟩
abbrev S2048x256 : Shape := ⟨2, ![2048, 256]⟩
abbrev S256x2048 : Shape := ⟨2, ![256, 2048]⟩
abbrev S2x512x2048 : Shape := ⟨3, ![2, 512, 2048]⟩
abbrev S4x256x2048 : Shape := ⟨3, ![4, 256, 2048]⟩
abbrev S3x2 : Shape := ⟨2, ![3, 2]⟩
abbrev S_ : Shape := ⟨0, ![]⟩
abbrev S512x256 : Shape := ⟨2, ![512, 256]⟩
abbrev S1x512x2048 : Shape := ⟨3, ![1, 512, 2048]⟩
abbrev S1x1 : Shape := ⟨2, ![1, 1]⟩
abbrev S1x256x2048 : Shape := ⟨3, ![1, 256, 2048]⟩
abbrev S1x128x2048 : Shape := ⟨3, ![1, 128, 2048]⟩
abbrev S128x2048 : Shape := ⟨2, ![128, 2048]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .bf16⟩
  | .hbm, ⟨3, _⟩ => ⟨S4096x2048, .bf16⟩
  | .hbm, ⟨4, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x2048, .bf16⟩
  | .local _ .vmem, ⟨7, _⟩ => ⟨S256x2048, .bf16⟩
  | .local _ .vmem, ⟨8, _⟩ => ⟨S2x512x2048, .bf16⟩
  | .local _ .vmem, ⟨9, _⟩ => ⟨S4x256x2048, .bf16⟩
  | .local _ .vmem, ⟨10, _⟩ => ⟨S4x256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev barrier0 : Sem sig := 0

abbrev nD : Nat := 4
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32_31 : BitVec 32 := 0#32
  let v55 : BitVec 1 := Scalar.cmpi .eq arg1 c0_i32_31
  let v56 : BitVec 32 := Scalar.extui v55
  let c0_i32_32 : BitVec 32 := 0#32
  let v57 : BitVec 1 := Scalar.cmpi .ne v56 c0_i32_32
  v57

def k0_off1 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v79 : Index := Scalar.indexCast v35
  let c0_43 : Index := 0#32
  let c0_44 : Index := 0#32
  ![v79.toNat, 0, 0]
def k0_cond2 (i : grid0.Coords) : BitVec 1 :=
  let arg1 : BitVec 32 := BitVec.ofNat 32 (i 1).val
  let c0_i32_33 : BitVec 32 := 0#32
  let v58 : BitVec 1 := Scalar.cmpi .sgt arg1 c0_i32_33
  let v59 : BitVec 32 := Scalar.extui v58
  let c0_i32_34 : BitVec 32 := 0#32
  let v60 : BitVec 1 := Scalar.cmpi .ne v59 c0_i32_34
  v60

def k0_off2 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v79 : Index := Scalar.indexCast v35
  let c0_43 : Index := 0#32
  let c0_44 : Index := 0#32
  ![v79.toNat, 0, 0]
def k0_cond3 (i : grid0.Coords) : BitVec 1 :=
  let arg0 : BitVec 32 := BitVec.ofNat 32 (i 0).val
  let c0_i32_35 : BitVec 32 := 0#32
  let v61 : BitVec 1 := Scalar.cmpi .sgt arg0 c0_i32_35
  let arg1 : BitVec 32 := BitVec.ofNat 32 (i 1).val
  let c4_i32_36 : BitVec 32 := 4#32
  let v62 : BitVec 1 := Scalar.cmpi .eq arg1 c4_i32_36
  let v63 : BitVec 1 := Scalar.andi v61 v62
  let v64 : BitVec 32 := Scalar.extui v63
  let c0_i32_37 : BitVec 32 := 0#32
  let v65 : BitVec 1 := Scalar.cmpi .ne v64 c0_i32_37
  v65

def k0_off3 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let v107 : Index := Scalar.indexCast v36
  let c0_89 : Index := 0#32
  let c0_90 : Index := 0#32
  ![v107.toNat, 0, 0]
def k0_off4 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let v117 : Index := Scalar.indexCast v36
  let c256 : Index := 256#32
  let c0_95 : Index := 0#32
  ![v117.toNat, 256, 0]
def k0_dev1 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_107 : BitVec 32 := 1#32
  let v127 : BitVec 32 := Scalar.muli v25 c1_i32_107
  let v128 : BitVec 32 := Scalar.addi c0_i32_108 v127
  v128.toNat
def k0_dev2 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_119 : BitVec 32 := 1#32
  let v137 : BitVec 32 := Scalar.muli v14 c1_i32_119
  let v138 : BitVec 32 := Scalar.addi c0_i32_120 v137
  v138.toNat
def k0_cond4 (i : grid0.Coords) : BitVec 1 :=
  let arg0 : BitVec 32 := BitVec.ofNat 32 (i 0).val
  let c0_i32_38 : BitVec 32 := 0#32
  let v66 : BitVec 1 := Scalar.cmpi .sgt arg0 c0_i32_38
  let arg1 : BitVec 32 := BitVec.ofNat 32 (i 1).val
  let c9_i32 : BitVec 32 := 9#32
  let v67 : BitVec 1 := Scalar.cmpi .eq arg1 c9_i32
  let v68 : BitVec 1 := Scalar.andi v66 v67
  let v69 : BitVec 32 := Scalar.extui v68
  let c0_i32_39 : BitVec 32 := 0#32
  let v70 : BitVec 1 := Scalar.cmpi .ne v69 c0_i32_39
  v70

def k0_off5 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let v107 : Index := Scalar.indexCast v36
  let c0_89 : Index := 0#32
  let c0_90 : Index := 0#32
  ![v107.toNat, 0, 0]
def k0_off6 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let v117 : Index := Scalar.indexCast v36
  let c256 : Index := 256#32
  let c0_95 : Index := 0#32
  ![v117.toNat, 256, 0]
def k0_dev3 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_106 : BitVec 32 := 1#32
  let v127 : BitVec 32 := Scalar.muli v25 c1_i32_106
  let v128 : BitVec 32 := Scalar.addi c0_i32_107 v127
  v128.toNat
def k0_dev4 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_118 : BitVec 32 := 1#32
  let v137 : BitVec 32 := Scalar.muli v14 c1_i32_118
  let v138 : BitVec 32 := Scalar.addi c0_i32_119 v137
  v138.toNat
def k0_cond5 (i : grid0.Coords) : BitVec 1 :=
  let arg0 : BitVec 32 := BitVec.ofNat 32 (i 0).val
  let c0_i32_40 : BitVec 32 := 0#32
  let v71 : BitVec 1 := Scalar.cmpi .sgt arg0 c0_i32_40
  let arg1 : BitVec 32 := BitVec.ofNat 32 (i 1).val
  let c14_i32 : BitVec 32 := 14#32
  let v72 : BitVec 1 := Scalar.cmpi .eq arg1 c14_i32
  let v73 : BitVec 1 := Scalar.andi v71 v72
  let v74 : BitVec 32 := Scalar.extui v73
  let c0_i32_41 : BitVec 32 := 0#32
  let v75 : BitVec 1 := Scalar.cmpi .ne v74 c0_i32_41
  v75

def k0_off7 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let v109 : Index := Scalar.indexCast v36
  let c0_89 : Index := 0#32
  let c0_90 : Index := 0#32
  ![v109.toNat, 0, 0]
def k0_off8 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let v119 : Index := Scalar.indexCast v36
  let c256 : Index := 256#32
  let c0_95 : Index := 0#32
  ![v119.toNat, 256, 0]
def k0_off9 (i : grid0.Coords) : Fin 2 → Nat :=
  let arg0 : BitVec 32 := BitVec.ofNat 32 (i 0).val
  let c1_i32_43 : BitVec 32 := 1#32
  let v79 : BitVec 32 := Scalar.subi arg0 c1_i32_43
  let c512_i32 : BitVec 32 := 512#32
  let v80 : BitVec 32 := Scalar.muli v79 c512_i32
  let c0_i32_101 : BitVec 32 := 0#32
  ![v80.toNat, 0]
def k0_off10 (i : grid0.Coords) : Fin 3 → Nat :=
  let c1_i32_19 : BitVec 32 := 1#32
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : BitVec 32 := Scalar.subi c1_i32_19 v35
  let c0_i32_102 : BitVec 32 := 0#32
  let c0_i32_103 : BitVec 32 := 0#32
  ![v36.toNat, 0, 0]
def k0_cond6 (i : grid0.Coords) : BitVec 1 :=
  let arg1 : BitVec 32 := BitVec.ofNat 32 (i 1).val
  let c15_i32 : BitVec 32 := 15#32
  let v76 : BitVec 1 := Scalar.cmpi .eq arg1 c15_i32
  let v77 : BitVec 32 := Scalar.extui v76
  let c0_i32_42 : BitVec 32 := 0#32
  let v78 : BitVec 1 := Scalar.cmpi .ne v77 c0_i32_42
  v78

def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_44 : BitVec 32 := 1#32
  let v80 : BitVec 32 := Scalar.muli v14 c1_i32_44
  let v81 : BitVec 32 := Scalar.addi c0_i32_45 v80
  v81.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_47 : BitVec 32 := 1#32
  let v82 : BitVec 32 := Scalar.muli v25 c1_i32_47
  let v83 : BitVec 32 := Scalar.addi c0_i32_48 v82
  v83.toNat
def k0_off11 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v84 : Index := Scalar.indexCast v35
  let c0_50 : Index := 0#32
  let c0_51 : Index := 0#32
  ![v84.toNat, 0, 0]
def k0_off12 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v90 : Index := Scalar.indexCast v35
  let c256 : Index := 256#32
  let c0_55 : Index := 0#32
  ![v90.toNat, 256, 0]
def k0_cond7 (i : grid0.Coords) : BitVec 1 :=
  let arg0 : BitVec 32 := BitVec.ofNat 32 (i 0).val
  let c3_i32 : BitVec 32 := 3#32
  let v96 : BitVec 1 := Scalar.cmpi .slt arg0 c3_i32
  let v97 : BitVec 32 := Scalar.extui v96
  let c0_i32_59 : BitVec 32 := 0#32
  let v98 : BitVec 1 := Scalar.cmpi .ne v97 c0_i32_59
  v98

def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_68 : BitVec 32 := 1#32
  let v102 : BitVec 32 := Scalar.muli v25 c1_i32_68
  let v103 : BitVec 32 := Scalar.addi c0_i32_69 v102
  v103.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_80 : BitVec 32 := 1#32
  let v112 : BitVec 32 := Scalar.muli v14 c1_i32_80
  let v113 : BitVec 32 := Scalar.addi c0_i32_81 v112
  v113.toNat
def k0_cond8 (i : grid0.Coords) : BitVec 1 :=
  let arg0 : BitVec 32 := BitVec.ofNat 32 (i 0).val
  let c3_i32_60 : BitVec 32 := 3#32
  let v99 : BitVec 1 := Scalar.cmpi .eq arg0 c3_i32_60
  let v100 : BitVec 32 := Scalar.extui v99
  let c0_i32_61 : BitVec 32 := 0#32
  let v101 : BitVec 1 := Scalar.cmpi .ne v100 c0_i32_61
  v101

def k0_dev9 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_68 : BitVec 32 := 1#32
  let v102 : BitVec 32 := Scalar.muli v25 c1_i32_68
  let v103 : BitVec 32 := Scalar.addi c0_i32_69 v102
  v103.toNat
def k0_dev10 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_80 : BitVec 32 := 1#32
  let v112 : BitVec 32 := Scalar.muli v14 c1_i32_80
  let v113 : BitVec 32 := Scalar.addi c0_i32_81 v112
  v113.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_92 : BitVec 32 := 1#32
  let v122 : BitVec 32 := Scalar.muli v25 c1_i32_92
  let v123 : BitVec 32 := Scalar.addi c0_i32_93 v122
  v123.toNat
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_103 : BitVec 32 := 1#32
  let v132 : BitVec 32 := Scalar.muli v14 c1_i32_103
  let v133 : BitVec 32 := Scalar.addi c0_i32_104 v132
  v133.toNat
def k0_off13 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v170 : Index := Scalar.indexCast v35
  let c0_155 : Index := 0#32
  let c0_156 : Index := 0#32
  ![v170.toNat, 0, 0]
def k0_off14 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v180 : Index := Scalar.indexCast v35
  let c256_161 : Index := 256#32
  let c0_162 : Index := 0#32
  ![v180.toNat, 256, 0]
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_174 : BitVec 32 := 1#32
  let v190 : BitVec 32 := Scalar.muli v25 c1_i32_174
  let v191 : BitVec 32 := Scalar.addi c0_i32_175 v190
  v191.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_186 : BitVec 32 := 1#32
  let v200 : BitVec 32 := Scalar.muli v14 c1_i32_186
  let v201 : BitVec 32 := Scalar.addi c0_i32_187 v200
  v201.toNat
def k0_off15 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v238 : Index := Scalar.indexCast v35
  let c128 : Index := 128#32
  let c0_238 : Index := 0#32
  ![v238.toNat, 128, 0]
def k0_off16 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v248 : Index := Scalar.indexCast v35
  let c384 : Index := 384#32
  let c0_244 : Index := 0#32
  ![v248.toNat, 384, 0]
def k0_dev15 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_256 : BitVec 32 := 1#32
  let v258 : BitVec 32 := Scalar.muli v25 c1_i32_256
  let v259 : BitVec 32 := Scalar.addi c0_i32_257 v258
  v259.toNat
def k0_dev16 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_268 : BitVec 32 := 1#32
  let v268 : BitVec 32 := Scalar.muli v14 c1_i32_268
  let v269 : BitVec 32 := Scalar.addi c0_i32_269 v268
  v269.toNat
def k0_dev17 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_339 : BitVec 32 := 1#32
  let v326 : BitVec 32 := Scalar.muli v25 c1_i32_339
  let v327 : BitVec 32 := Scalar.addi c0_i32_340 v326
  v327.toNat
def k0_dev18 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_351 : BitVec 32 := 1#32
  let v336 : BitVec 32 := Scalar.muli v14 c1_i32_351
  let v337 : BitVec 32 := Scalar.addi c0_i32_352 v336
  v337.toNat
def k0_dev19 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_423 : BitVec 32 := 1#32
  let v394 : BitVec 32 := Scalar.muli v25 c1_i32_423
  let v395 : BitVec 32 := Scalar.addi c0_i32_424 v394
  v395.toNat
def k0_dev20 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_435 : BitVec 32 := 1#32
  let v404 : BitVec 32 := Scalar.muli v14 c1_i32_435
  let v405 : BitVec 32 := Scalar.addi c0_i32_436 v404
  v405.toNat
def k0_off17 (i : grid0.Coords) : Fin 2 → Nat :=
  let arg0 : BitVec 32 := BitVec.ofNat 32 (i 0).val
  let c512_i32 : BitVec 32 := 512#32
  let v510 : BitVec 32 := Scalar.muli arg0 c512_i32
  let c0_i32_560 : BitVec 32 := 0#32
  ![v510.toNat, 0]
def k0_off18 (i : grid0.Coords) : Fin 3 → Nat :=
  let arg0 : BitVec 32 := BitVec.ofNat 32 (i 0).val
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_561 : BitVec 32 := 0#32
  let c0_i32_562 : BitVec 32 := 0#32
  ![v35.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== ReferenceIdeal.lean ====
abbrev S2048x2048 : Shape := ⟨2, ![2048, 2048]⟩
abbrev S2048x16384 : Shape := ⟨2, ![2048, 16384]⟩
abbrev S16384x2048 : Shape := ⟨2, ![16384, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .bf16⟩
  | .hbm, ⟨2, _⟩ => ⟨S2048x16384, .bf16⟩
  | .hbm, ⟨3, _⟩ => ⟨S16384x2048, .bf16⟩
  | .hbm, ⟨4, _⟩ => ⟨S2048x16384, .f32⟩
  | .hbm, ⟨5, _⟩ => ⟨S2048x16384, .bf16⟩
  | .hbm, ⟨6, _⟩ => ⟨S2048x16384, .f32⟩
  | .hbm, ⟨7, _⟩ => ⟨S2048x16384, .bf16⟩
  | .hbm, ⟨8, _⟩ => ⟨S2048x16384, .bf16⟩
  | .hbm, ⟨9, _⟩ => ⟨S2048x16384, .bf16⟩
  | .hbm, ⟨10, _⟩ => ⟨S_, .bf16⟩
  | .hbm, ⟨11, _⟩ => ⟨S2048x16384, .bf16⟩
  | .hbm, ⟨12, _⟩ => ⟨S2048x16384, .bf16⟩
  | .hbm, ⟨13, _⟩ => ⟨S2048x16384, .bf16⟩
  | .hbm, ⟨14, _⟩ => ⟨S2048x16384, .bf16⟩
  | .hbm, ⟨15, _⟩ => ⟨S2048x2048, .f32⟩
  | .hbm, ⟨16, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Base.lean ====
/-
The resource algebra, the ring of four devices, and the regions of the scratch buffers.

A region of a three-axis buffer is `R` consecutive rows of one of its planes, as a two-axis memref. Every load and
store of the kernel's scratch covers exactly one region, so what the proof keeps is "region owned, reads `X`"; a region
of `R₁ + R₂` rows is the two regions of its first and last rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the ring's rounds (duties `Bool`); a tally's index is the row tile -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- The device a direction sends to: `true` rightwards, `false` leftwards; -/
def tgt (d : Bool) (c : Dev nD) : Dev nD := if d then nxt c else prv c
/-- and the one it receives from. -/
def src (d : Bool) (c : Dev nD) : Dev nD := if d then prv c else nxt c

theorem src_tgt (d : Bool) (c : Dev nD) : src d (tgt d c) = c := by revert d c; decide
theorem tgt_src (d : Bool) (c : Dev nD) : tgt d (src d c) = c := by revert d c; decide

/-- A direction's step, as a permutation of the devices. -/
def ringD (d : Bool) : Dev nD ≃ Dev nD := ⟨tgt d, src d, src_tgt d, tgt_src d⟩

/-! ## Two-axis blocks -/

abbrev Sh2 (R : ℕ) : Shape := ⟨2, ![R, 2048]⟩
abbrev Sh3 (A R : ℕ) : Shape := ⟨3, ![A, R, 2048]⟩
/-- `R` rows of 2048 bf16 values. -/
abbrev Blk (F : FTy → Type) (R : ℕ) : Type := (Sh2 R).Idx → Elt F .bf16

/-- Rows `o … o + R' - 1` of a block. -/
def rows {α : Type} {R : ℕ} (o R' : ℕ) (h : o + R' ≤ R) (X : (Sh2 R).Idx → α) : (Sh2 R').Idx → α :=
  fun y => X (ix2 (⟨o + (y 0).val, lt_of_lt_of_le (Nat.add_lt_add_left (y 0).isLt o) h⟩ : Fin R) (y 1))

/-- Two blocks, one above the other. -/
def cat {α : Type} {R₁ R₂ R : ℕ} (h : R₁ + R₂ = R) (X : (Sh2 R₁).Idx → α) (Y : (Sh2 R₂).Idx → α) : (Sh2 R).Idx → α :=
  fun y => if hy : (y 0).val < R₁ then X (ix2 (⟨(y 0).val, hy⟩ : Fin R₁) (y 1))
    else Y (ix2 (⟨(y 0).val - R₁, by have := (y 0).isLt; change _ < R at this; omega⟩ : Fin R₂) (y 1))

/-- The block as one plane of three axes, and back: what the kernel's vectors are. -/
def up {α : Type} {R : ℕ} (X : (Sh2 R).Idx → α) : (Sh3 1 R).Idx → α := fun y => X (ix2 (y 1) (y 2))
def dn {α : Type} {R : ℕ} (X : (Sh3 1 R).Idx → α) : (Sh2 R).Idx → α := fun y => X (ix3 (0 : Fin 1) (y 0) (y 1))

theorem dn_up {α : Type} {R : ℕ} (X : (Sh2 R).Idx → α) : dn (up X) = X := by
  funext y; exact congrArg X (eq_ix2 y).symm
theorem up_dn {α : Type} {R : ℕ} (X : (Sh3 1 R).Idx → α) : up (dn X) = X := by
  funext y
  refine congrArg X ?_
  funext a
  match a with
  | 0 => exact Subsingleton.elim (α := Fin 1) _ _
  | 1 => rfl
  | 2 => rfl

theorem shapeCast_dn {α : Type} {R : ℕ} (X : (Sh3 1 R).Idx → α) (h : (Sh3 1 R).ShapeCasts (Sh2 R)) :
    shapeCast (Sh2 R) X h = dn X := by
  funext y; rw [eq_ix2 y]; exact shapeCast_1ab_ab_apply X h _ _
theorem shapeCast_up {α : Type} {R : ℕ} (X : (Sh2 R).Idx → α) (h : (Sh2 R).ShapeCasts (Sh3 1 R)) :
    shapeCast (Sh3 1 R) X h = up X := by
  funext y; rw [eq_ix3 y]; exact shapeCast_ab_1ab_apply X h _ _ _

theorem cat_rows {α : Type} {R₁ R₂ R : ℕ} (h : R₁ + R₂ = R) (X : (Sh2 R).Idx → α) :
    cat h (rows 0 R₁ (by omega) X) (rows R₁ R₂ (by omega) X) = X := by
  funext y
  conv_rhs => rw [eq_ix2 y]
  unfold cat rows
  by_cases hy : (y 0).val < R₁
  · rw [dif_pos hy]
    exact congrArg X (congrArg (fun a => ix2 a (y 1)) (Fin.ext (Nat.zero_add _)))
  · rw [dif_neg hy]
    exact congrArg X (congrArg (fun a => ix2 a (y 1)) (Fin.ext (by show R₁ + ((y 0).val - R₁) = _; omega)))

/-! ## Regions -/

theorem sqz (R : ℕ) : (Sh3 1 R).Squeezes (Sh2 R) := by
  show Shape.dropsOnes ([2048, R, 1] : List ℕ) [2048, R] = true
  simp [Shape.dropsOnes]

/-- `R` rows of plane `s` of a three-axis buffer, from row `a`. -/
abbrev win {sp : Space} {A H : ℕ} (b : Memref sig .tc sp (Sh3 A H) .bf16) (s a R : ℕ)
    (h : ∀ x, (![s, a, 0] : Fin 3 → ℕ) x + (Sh3 1 R).size x ≤ (Sh3 A H).size x) : Memref sig .tc sp (Sh2 R) .bf16 :=
  (b.slice (Rect.unit (s := Sh3 A H) ![s, a, 0] (Sh3 1 R).size h) (fun _ => rfl)).squeeze (Sh2 R) (sqz R)

section Regions
variable {sp : Space} {A H : ℕ} (b : Memref sig .tc sp (Sh3 A H) .bf16)

theorem win_set (s a R : ℕ) (h) :
    (win b s a R h).view.set = b.view.setOn (Rect.unit (s := Sh3 A H) ![s, a, 0] (Sh3 1 R).size h).set := by
  show ((b.view.slice _).reshape _ _).set = _
  rw [View.set_reshape, View.set_slice]; rfl

theorem mem_rect {s a R : ℕ} {h} {i : (Sh3 A H).Idx} :
    i ∈ (Rect.unit (s := Sh3 A H) ![s, a, 0] (Sh3 1 R).size h).set ↔ (i 0).val = s ∧ a ≤ (i 1).val ∧ (i 1).val < a + R := by
  rw [Rect.mem_set_unit]
  constructor
  · intro hi
    have h0 : s ≤ (i 0).val ∧ (i 0).val < s + 1 := hi 0
    have h1 : a ≤ (i 1).val ∧ (i 1).val < a + R := hi 1
    exact ⟨by omega, h1⟩
  · rintro ⟨h0, h1, h2⟩ x
    match x with
    | 0 => show s ≤ (i 0).val ∧ (i 0).val < s + 1; omega
    | 1 => show a ≤ (i 1).val ∧ (i 1).val < a + R; omega
    | 2 => exact ⟨Nat.zero_le _, by have h : (i 2).val < 2048 := (i 2).isLt; show (i 2).val < 0 + 2048; omega⟩

/-- What a region reads: the buffer's elements at the plane and the row offset. -/
theorem win_read (s a R : ℕ) (h) (f : b.view.ty.Contents (Elt F)) (y : (Sh2 R).Idx) :
    (win b s a R h).view.read (Elt F) f y
      = b.view.read (Elt F) f ((Rect.unit (s := Sh3 A H) ![s, a, 0] (Sh3 1 R).size h).emb (ix3 (0 : Fin 1) (y 0) (y 1))) := by
  conv_lhs => rw [eq_ix2 y]
  show b.view.read (Elt F) f ((Rect.unit (s := Sh3 A H) ![s, a, 0] (Sh3 1 R).size h).emb (Shape.reshapeEquiv _ (ix2 (y 0) (y 1)))) = _
  refine congrArg _ (congrArg _ ?_)
  exact reshapeEquiv_ix2_1ab _ _ _

theorem win_mem {s a R : ℕ} {h} {x : b.view.ty.Idx} :
    x ∈ (win b s a R h).view.set
      ↔ ∃ i : (Sh3 A H).Idx, ((i 0).val = s ∧ a ≤ (i 1).val ∧ (i 1).val < a + R) ∧ b.view.emb i = x := by
  rw [win_set]
  constructor
  · intro hx
    obtain ⟨i, hi, rfl⟩ := Finset.mem_map.mp hx
    exact ⟨i, mem_rect.mp hi, rfl⟩
  · rintro ⟨i, hi, rfl⟩
    exact Finset.mem_map_of_mem _ (mem_rect.mpr hi)

theorem win_disjoint {s a R s' a' R' : ℕ} {h h'} (hd : s ≠ s' ∨ a + R ≤ a' ∨ a' + R' ≤ a) :
    Disjoint (win b s a R h).view.set (win b s' a' R' h').view.set := by
  rw [Finset.disjoint_left]
  intro x hx hx'
  obtain ⟨i, hi, rfl⟩ := (win_mem b).mp hx
  obtain ⟨i', hi', he⟩ := (win_mem b).mp hx'
  have := b.view.emb.injective he
  subst this
  omega

variable (c : Dev nD)

/-- A region owned, as its elements at any contents that read the same; -/
theorem owns_win_elim {s a R : ℕ} {h} (X : Blk F R) :
    (ownsTc c (win b s a R h) fullShare X : sProp 𝕄)
      ⊢ iprop(∃ f, ⌜(win b s a R h).view.read (Elt F) f = X⌝ ∗ (win b s a R h).view.loc (c : Thread nD τ) ↦[(win b s a R h).view.set]{fullShare} f) := .rfl

/-- a region is its first and its last rows. -/
theorem win_union {s a R₁ R₂ R : ℕ} (hR : R₁ + R₂ = R) {h h₁ h₂} :
    (win b s a R h).view.set = (win b s a R₁ h₁).view.set ∪ (win b s (a + R₁) R₂ h₂).view.set := by
  ext x
  rw [Finset.mem_union, win_mem, win_mem, win_mem]
  constructor
  · rintro ⟨i, hi, e⟩
    by_cases hlt : (i 1).val < a + R₁
    · exact .inl ⟨i, by omega, e⟩
    · exact .inr ⟨i, by omega, e⟩
  · rintro (⟨i, hi, e⟩ | ⟨i, hi, e⟩)
    · exact ⟨i, by omega, e⟩
    · exact ⟨i, by omega, e⟩

theorem win_read_rows {s a o R' R : ℕ} (hR : o + R' ≤ R) {h h'} (f : b.view.ty.Contents (Elt F)) :
    (win b s (a + o) R' h').view.read (Elt F) f = rows o R' hR ((win b s a R h).view.read (Elt F) f) := by
  funext y
  unfold rows
  rw [win_read b, win_read b]
  refine congrArg _ (funext fun x => ?_)
  match x with
  | 0 => rfl
  | 1 => exact Fin.ext (by show a + o + 1 * (y 0).val = a + 1 * (o + (y 0).val); omega)
  | 2 => rfl

theorem owns_win_split {s a R₁ R₂ R : ℕ} (hR : R₁ + R₂ = R) {h h₁ h₂} (X : Blk F R) :
    (ownsTc c (win b s a R h) fullShare X : sProp 𝕄)
      ⊢ iprop(ownsTc c (win b s a R₁ h₁) fullShare (rows 0 R₁ (by omega) X)
          ∗ ownsTc c (win b s (a + R₁) R₂ h₂) fullShare (rows R₁ R₂ (by omega) X)) := by
  iintro H
  ihave H' := (owns_win_elim b c X) $$ H
  icases H' with ⟨%f, %hf, H⟩
  have hd : Disjoint (win b s a R₁ h₁).view.set (win b s (a + R₁) R₂ h₂).view.set := win_disjoint b (by omega)
  have e : ((win b s a R h).view.loc (c : Thread nD τ) ↦[(win b s a R h).view.set]{fullShare} f : sProp 𝕄)
      ⊢ iprop(((win b s a R₁ h₁).view.loc (c : Thread nD τ) ↦[(win b s a R₁ h₁).view.set]{fullShare} f)
        ∗ (win b s (a + R₁) R₂ h₂).view.loc (c : Thread nD τ) ↦[(win b s (a + R₁) R₂ h₂).view.set]{fullShare} f) := by
    rw [win_union b hR (h := h) (h₁ := h₁) (h₂ := h₂)]
    exact (pointsTo_union hd).1
  ihave H' := e $$ H
  icases H' with ⟨H₁, H₂⟩
  subst hf
  isplitl [H₁]
  · rw [← win_read_rows b (o := 0) (h' := h₁) (by omega) f]
    iapply (owns_intro (c : Thread nD τ) (win b s a R₁ h₁) fullShare f); iexact H₁
  · rw [← win_read_rows b (o := R₁) (h' := h₂) (by omega) f]
    iapply (owns_intro (c : Thread nD τ) (win b s (a + R₁) R₂ h₂) fullShare f); iexact H₂

theorem owns_win_join {s a R₁ R₂ R : ℕ} (hR : R₁ + R₂ = R) {h h₁ h₂} (X : Blk F R₁) (Y : Blk F R₂) :
    iprop(ownsTc c (win b s a R₁ h₁) fullShare X ∗ ownsTc c (win b s (a + R₁) R₂ h₂) fullShare Y)
      ⊢ (ownsTc c (win b s a R h) fullShare (cat hR X Y) : sProp 𝕄) := by
  iintro ⟨H₁, H₂⟩
  ihave H' := (owns_win_elim b c X) $$ H₁
  icases H' with ⟨%f, %hf, H₁⟩
  ihave H' := (owns_win_elim b c Y) $$ H₂
  icases H' with ⟨%g, %hg, H₂⟩
  have hd : Disjoint (win b s a R₁ h₁).view.set (win b s (a + R₁) R₂ h₂).view.set := win_disjoint b (by omega)
  let k : b.view.ty.Contents (Elt F) := (win b s (a + R₁) R₂ h₂).view.set.piecewise g f
  have e : iprop(((win b s a R₁ h₁).view.loc (c : Thread nD τ) ↦[(win b s a R₁ h₁).view.set]{fullShare} f)
        ∗ (win b s (a + R₁) R₂ h₂).view.loc (c : Thread nD τ) ↦[(win b s (a + R₁) R₂ h₂).view.set]{fullShare} g)
      ⊢ ((win b s a R h).view.loc (c : Thread nD τ) ↦[(win b s a R h).view.set]{fullShare} k : sProp 𝕄) := by
    rw [win_union b hR (h := h) (h₁ := h₁) (h₂ := h₂)]
    exact pointsTo_join hd
  have hk : (win b s a R h).view.read (Elt F) k = cat hR X Y := by
    rw [← cat_rows hR ((win b s a R h).view.read (Elt F) k), ← win_read_rows b (o := 0) (h' := h₁) (by omega) k,
      ← win_read_rows b (o := R₁) (h' := h₂) (by omega) k, ← hf, ← hg]
    congr 1
    · funext y
      show (win b s a R₁ h₁).view.read (Elt F) k y = _
      rw [View.read_apply, View.read_apply]
      show cast _ (Finset.piecewise _ g f _) = _
      rw [Finset.piecewise_eq_of_notMem _ _ _ (fun hm => (Finset.disjoint_left.mp hd) (View.emb_mem_set _ y) hm)]
    · funext y
      rw [View.read_apply, View.read_apply]
      show cast _ (Finset.piecewise _ g f _) = _
      rw [Finset.piecewise_eq_of_mem _ _ _ (View.emb_mem_set _ y)]
  rw [← hk]
  iapply (owns_intro (c : Thread nD τ) (win b s a R h) fullShare k)
  iapply e
  isplitl [H₁]
  · iexact H₁
  · iexact H₂

/-! ## The load and the store of a region -/

theorem wp_load_win {α : Type} {b : Memref sig .tc (.core .vmem) (Sh3 A H) .bf16} {s a R : ℕ} {h} {off : Fin 3 → ℕ} (ho : off = ![s, a, 0])
    {inb : ∀ x, off x + (Sh3 1 R).size x ≤ (Sh3 A H).size x}
    {hl : b.view.LoadsAt (Rect.unit (s := Sh3 A H) off (Sh3 1 R).size inb).toLoadRect}
    {k : Vec F (Sh3 1 R) .bf16 → Prog (TpuEff nD τ sig (Elt F) Λ₀ .tc) α} {defs : Defs nD τ sig (Elt F) Λ₀} {Q : α → sProp 𝕄} (X : Blk F R) :
    (ownsTc c (win b s a R h) fullShare X : sProp 𝕄)
      ⊢ iprop((ownsTc c (win b s a R h) fullShare X -∗ wp frame (wpE defs 𝒱₀ (c : Thread nD τ) none) Set.univ (k (up X)) Q)
        -∗ wp frame (wpE defs 𝒱₀ (c : Thread nD τ) none) Set.univ
            (.op (.load b (Rect.unit (s := Sh3 A H) off (Sh3 1 R).size inb).toLoadRect hl) k) Q) := by
  subst ho
  iintro H Hk
  ihave H' := (owns_win_elim b c X) $$ H
  icases H' with ⟨%f, %hf, H⟩
  have hv : b.view.readAt (Elt F) (Rect.unit (s := Sh3 A H) ![s, a, 0] (Sh3 1 R).size inb).toLoadRect f = up X := by
    subst hf
    funext y
    show b.view.read (Elt F) f _ = (win b s a R h).view.read (Elt F) f (ix2 (y 1) (y 2))
    rw [win_read b]
    refine congrArg _ (funext fun x => ?_)
    match x with
    | 0 => exact Fin.ext (by have := (y 0).isLt; change _ < 1 at this; show s + 1 * (y 0).val = s + 1 * 0; omega)
    | 1 => rfl
    | 2 => rfl
  iapply (wp_load 𝒱₀ (c : Thread nD τ) none Set.univ (m := b) (S := (win b s a R h).view.set) (f := f) (q := fullShare) (hl := hl)
    (r := (Rect.unit (s := Sh3 A H) ![s, a, 0] (Sh3 1 R).size inb).toLoadRect) (by rw [win_set])) $$ [H]
  · iexact H
  iintro H
  rw [hv]
  iapply Hk
  subst hf
  iapply (owns_intro (c : Thread nD τ) (win b s a R h) fullShare f)
  iexact H

theorem wp_store_win {α : Type} {b : Memref sig .tc (.core .vmem) (Sh3 A H) .bf16} {s a R : ℕ} {h} {off : Fin 3 → ℕ} (ho : off = ![s, a, 0])
    {inb : ∀ x, off x + (Sh3 1 R).size x ≤ (Sh3 A H).size x} {w : Vec F (Sh3 1 R) .bf16} {hx hm}
    {k : PUnit → Prog (TpuEff nD τ sig (Elt F) Λ₀ .tc) α} {defs : Defs nD τ sig (Elt F) Λ₀} {Q : α → sProp 𝕄} (X : Blk F R) (Y : Blk F R) (hw : dn w = Y) :
    (ownsTc c (win b s a R h) fullShare X : sProp 𝕄)
      ⊢ iprop((ownsTc c (win b s a R h) fullShare Y -∗ wp frame (wpE defs 𝒱₀ (c : Thread nD τ) none) Set.univ (k ⟨⟩) Q)
        -∗ wp frame (wpE defs 𝒱₀ (c : Thread nD τ) none) Set.univ
            (.op (.store b (Rect.unit (s := Sh3 A H) off (Sh3 1 R).size inb) w Finset.univ hx hm) k) Q) := by
  subst ho
  iintro H Hk
  ihave H' := (owns_win_elim b c X) $$ H
  icases H' with ⟨%f, %hf, H⟩
  have hv : (win b s a R h).view.read (Elt F)
      ((b.access (Rect.unit (s := Sh3 A H) ![s, a, 0] (Sh3 1 R).size inb)).write (Elt F) f w Finset.univ) = Y := by
    subst hw
    funext y
    rw [win_read b]
    exact View.read_slice_write_emb (v := b.view) (Rect.unit (s := Sh3 A H) ![s, a, 0] (Sh3 1 R).size h) f w (Finset.mem_univ _)
  iapply (wp_store 𝒱₀ (c : Thread nD τ) none Set.univ (m := b) (S := (win b s a R h).view.set) (f := f) (hx := hx) (hm := hm)
    (r := Rect.unit (s := Sh3 A H) ![s, a, 0] (Sh3 1 R).size inb) (w := w) (Mk := Finset.univ)
    (by rw [win_set]; show (b.view.slice _).set ⊆ _; rw [View.set_slice]; exact Finset.Subset.refl _)) $$ [H]
  · iexact H
  iintro H
  iapply Hk
  rw [← hv]
  iapply (owns_intro (c : Thread nD τ) (win b s a R h) fullShare _)
  iexact H

end Regions

end Cert.K

end
-- ==== Proof.Sched.lean ====
/-
The kernel's cells, what each round of each cell hands over, the levels, and what a device owes.

For each of the four row tiles a device sends each half of its partial product three hops around the ring — the upper
half rightwards (`true`), the lower half leftwards (`false`) — through slots 0 … 3 of a direction's buffer, and adds what
arrives. The last tile's hops go in two pieces of 128 rows. A tile is one round of every barrier, send and receive cell;
the barrier's round hands a device its two neighbours' slots for the tile.
-/
module

public import proofs.«01_k».proof.Proof.Base
public import Mathlib.Data.Fintype.Option
public import Mathlib.Data.Fintype.Prod
public import Mathlib.Tactic.FinCases
public import proofs.«01_k».proof.Proof.Gen.KernelIdeal.Frame

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Values -/

/-- Grid point `(i, k)`: row tile `i`, step `k` along the intermediate dimension. -/
def pt (i k : ℕ) : Fin cfg0.N := ⟨(16 * i + k) % 64, by have : cfg0.N = 64 := N_0; have := Nat.mod_lt (16 * i + k) (by decide : 0 < 64); omega⟩

/-- What one grid point adds to the tile's partial product. -/
def mlp (c : Dev nD) (t : Fin cfg0.N) : Blk F 512 :=
  k0_pay27 (iblk m c 1 t) (iblk m c 2 t) (iblk m c 3 t) (iblk m c 0 t) (iblk m c 0 t)

/-- The sum of two blocks, elementwise in the kernel's arithmetic. -/
def add {R : ℕ} (X Y : Blk F R) : Blk F R := addf (s := Sh2 R) (φ := .bf16) X Y

/-- The partial product of tile `i` after step `k`; -/
def partAt (c : Dev nD) (i : ℕ) : ℕ → Blk F 512
  | 0 => mlp m c (pt i 0)
  | k + 1 => add (partAt c i k) (mlp m c (pt i (k + 1)))
/-- after the last. -/
def partF (c : Dev nD) (i : ℕ) : Blk F 512 := partAt m c i 15

/-- The half of a tile a direction carries. -/
def halfOf (d : Bool) (X : Blk F 512) : Blk F 256 := if d then rows 0 256 (by decide) X else rows 256 256 (by decide) X

/-- What slot `s` of direction `d` holds for tile `i`: the half of the device `s` steps back. -/
def val (c : Dev nD) (d : Bool) (i s : ℕ) : Blk F 256 := halfOf d (partF m ((src d)^[s] c) i)

theorem val_tgt (c : Dev nD) (d : Bool) (i s : ℕ) : val m (tgt d c) d i (s + 1) = val m c d i s := by
  unfold val; rw [Function.iterate_succ_apply, src_tgt]

/-- The tile after `s` arrivals have been added. -/
def red (c : Dev nD) (i : ℕ) : ℕ → Blk F 512
  | 0 => partF m c i
  | s + 1 => cat (by decide : 256 + 256 = 512) (add (rows 0 256 (by decide) (red c i s)) (val m c true i (s + 1)))
      (add (rows 256 256 (by decide) (red c i s)) (val m c false i (s + 1)))

/-! ## Cells -/

/-- The kernel's cells of one device: the barrier (`none`), the local copy's (`some none`), and for each direction, hop and
    piece the send cell (`true`) and the receive cell (`false`). -/
abbrev CK : Type := Option (Option (Bool × Bool × Fin 3 × Fin 2))
instance : DecidableEq CK := inferInstance
@[match_pattern] abbrev kBar : CK := none
@[match_pattern] abbrev kOut : CK := some none
@[match_pattern] abbrev kSnd (d : Bool) (s : Fin 3) (j : Fin 2) : CK := some (some (true, d, s, j))
@[match_pattern] abbrev kRcv (d : Bool) (s : Fin 3) (j : Fin 2) : CK := some (some (false, d, s, j))

abbrev barS : Sem sig := (SemArray.scalar (sig.barrier 0 rfl) : Sems sig S_).sem

set_option backward.proofsInPublic true in
def semOf : CK → SemLoc sig
  | none => .reg barS
  | some none => .dma (⟨32, by decide⟩ : Fin 33)
  | some (some (b, d, s, j)) =>
      .dma (⟨(if d then (if b then 8 else 14) else (if b then 20 else 26)) + 2 * s.val + j.val, by
        have := s.isLt; have := j.isLt; split <;> split <;> omega⟩ : Fin 33)

set_option backward.proofsInPublic true in
def decode : SemLoc sig → Option CK
  | .reg s => if s = barS then some none else none
  | .dma n => if n.val = 32 then some (some none) else if 8 ≤ n.val ∧ n.val < 32 then
      some (some (some (decide ((n.val - 8) / 6 % 2 = 0), decide (n.val < 20), ⟨(n.val - 8) % 6 / 2, by omega⟩, ⟨n.val % 2, by omega⟩))) else none

theorem decode_semOf (k : CK) : decode (semOf k) = some k := by
  match k with
  | none => rfl
  | some none => rfl
  | some (some (b, d, s, j)) => cases b <;> cases d <;> fin_cases s <;> fin_cases j <;> rfl
theorem semOf_inj : Function.Injective semOf := fun a b h => by
  have := congrArg decode h; rw [decode_semOf, decode_semOf] at this; exact Option.some.inj this

abbrev cell (c : Dev nD) (k : CK) : GSem nD τ sig := ((c : Thread nD τ), semOf k)

/-! ## Memrefs -/

theorem inbOf {A H s a R : ℕ} (h : s < A ∧ a + R ≤ H) :
    ∀ x, (![s, a, 0] : Fin 3 → ℕ) x + (Sh3 1 R).size x ≤ (Sh3 A H).size x := fun x =>
  match x with
  | 0 => h.1
  | 1 => h.2
  | 2 => Nat.le_of_eq (Nat.zero_add 2048)

abbrev accB : Memref sig .tc .vmem S2x512x2048 .bf16 := Memref.whole cc0_scratch0
/-- A direction's buffer of four slots. -/
@[reducible] def commB : Bool → Memref sig .tc .vmem S4x256x2048 .bf16
  | true => Memref.whole cc0_scratch1
  | false => Memref.whole cc0_scratch2
abbrev outB : Memref sig .tc .hbm S2048x2048 .bf16 := Memref.whole main_v1

theorem inbOut {o : ℕ} (h : o + 512 ≤ 2048) : ∀ x, (![o, 0] : Fin 2 → ℕ) x + S512x2048.size x ≤ S2048x2048.size x := fun x =>
  match x with
  | 0 => h
  | 1 => Nat.le_of_eq (Nat.zero_add 2048)

/-- Rows `o … o + 511` of the result. -/
abbrev outM (o : ℕ) (h : o + 512 ≤ 2048) : Memref sig .tc .hbm S512x2048 .bf16 :=
  outB.slice (Rect.unit (s := S2048x2048) ![o, 0] S512x2048.size (inbOut h)) (fun _ => rfl)

/-- Rows of slot `s` of direction `d` on `c`, reading `X`; -/
def pcO (c : Dev nD) (d : Bool) (s a R : ℕ) (h : s < 4 ∧ a + R ≤ 256) (X : Blk F R) : sProp 𝕄 :=
  ownsTc c (win (commB d) s a R (inbOf h)) fullShare X
/-- rows of buffer `p` of the accumulator; -/
def accO (c : Dev nD) (p a R : ℕ) (h : p < 2 ∧ a + R ≤ 512) (X : Blk F R) : sProp 𝕄 :=
  ownsTc c (win accB p a R (inbOf h)) fullShare X
/-- 512 rows of the result. -/
def outO (c : Dev nD) (o : ℕ) (h : o + 512 ≤ 2048) (X : Blk F 512) : sProp 𝕄 :=
  ownsTc c (outM o h) fullShare X

/-- A slot, whatever it holds. -/
def slotX (c : Dev nD) (d : Bool) (s : ℕ) (h : s < 4) : sProp 𝕄 := iprop(∃ X : Blk F 256, pcO c d s 0 256 ⟨h, by decide⟩ X)

omit [FloatOps F] in
instance pcO_storable (c : Dev nD) (d : Bool) (s a R : ℕ) (h) (X : Blk F R) : BI.Storable (upEmb : UEmb _ 𝕄) (pcO c d s a R h X) := by
  unfold pcO; infer_instance
omit [FloatOps F] in
instance accO_storable (c : Dev nD) (p a R : ℕ) (h) (X : Blk F R) : BI.Storable (upEmb : UEmb _ 𝕄) (accO c p a R h X) := by
  unfold accO; infer_instance
omit [FloatOps F] in
instance outO_storable (c : Dev nD) (o : ℕ) (h) (X : Blk F 512) : BI.Storable (upEmb : UEmb _ 𝕄) (outO c o h X) := by
  unfold outO; infer_instance
omit [FloatOps F] in
instance slotX_storable (c : Dev nD) (d : Bool) (s : ℕ) (h) : BI.Storable (upEmb : UEmb _ 𝕄) (slotX (F := F) c d s h) := by
  unfold slotX; infer_instance

/-! ## The schedule -/

/-- The tile and the number of rows that round `r` of piece `j` carries. -/
def tl (j : Fin 2) (r : ℕ) : ℕ := if j = 0 then r else 3
def ln (j : Fin 2) (r : ℕ) : ℕ := if j = 0 ∧ r < 3 then 256 else 128
/-- The number of rounds of piece `j`'s cells. -/
def nr (j : Fin 2) : ℕ := if j = 0 then 4 else 1

theorem ln_le (j : Fin 2) (r : ℕ) : 128 * j.val + ln j r ≤ 256 := by
  unfold ln; have := j.isLt
  split
  · next h => rw [h.1]; decide
  · omega
theorem ln_pos (j : Fin 2) (r : ℕ) : 0 < ln j r := by unfold ln; split <;> decide

/-- The credit of a transfer of `R` rows. -/
def cr (R : ℕ) : ℕ := sig.dmaCredit .tc (Kind.tc.table .vmem) (cc0_scratch1 : Ref sig .tc).idx (Sh2 R) .bf16
/-- The credit of a result tile's copy. -/
def crOut : ℕ := sig.dmaCredit .tc (Kind.tc.table .hbm) (main_v1 : Ref sig .tc).idx (Sh2 512) .bf16

theorem cr_pos {R : ℕ} (h : 0 < R) : 0 < cr R := sig.dmaCredit_pos _ _ _ _ _ (by
  show 0 < (Sh2 R).numel
  simp [Shape.numel, Fin.prod_univ_two]; exact h)
theorem crOut_pos : 0 < crOut := sig.dmaCredit_pos _ _ _ _ _ (by decide)

/-- What `tgt d c` lends `c` for tile `i`, hop `s`: the slot the hop lands in, and that its receive cell has reached the tile. -/
def lent (c : Dev nD) (d : Bool) (i : ℕ) (s : Fin 3) : sProp 𝕄 :=
  iprop(slotX (F := F) (tgt d c) d (s.val + 1) (by have := s.isLt; omega) ∗ reached ER (cell (tgt d c) (kRcv d s 0)) i)

/-- What arrives at a receive cell: the rows of the slot, holding the sender's rows; with the first hop of a tile that is not
    the last, that the sender's barrier cell has reached the next tile. -/
def rcvPay (c : Dev nD) (d : Bool) (s : Fin 3) (j : Fin 2) (r : ℕ) : sProp 𝕄 :=
  iprop(pcO c d (s.val + 1) (128 * j.val) (ln j r) ⟨by have := s.isLt; omega, ln_le j r⟩
      (rows (128 * j.val) (ln j r) (ln_le j r) (val m c d (tl j r) (s.val + 1)))
    ∗ (if s = 0 ∧ j = 0 then reached ER (cell (src d c) kBar) (r + 1) else iprop(emp)))

/-- What a send cell gives back: the rows sent. -/
def sndPay (c : Dev nD) (d : Bool) (s : Fin 3) (j : Fin 2) (r : ℕ) : sProp 𝕄 :=
  iprop(∃ X : Blk F (ln j r), pcO c d s.val (128 * j.val) (ln j r) ⟨by have := s.isLt; omega, ln_le j r⟩ X)

/-- What `tgt d c`'s signal hands `c`. -/
def barPay (c : Dev nD) (d : Bool) (r : ℕ) : sProp 𝕄 := iprop(lent (F := F) c d r 0 ∗ lent (F := F) c d r 1 ∗ lent (F := F) c d r 2)

/-- What the local copy of tile `r` hands back: the accumulator's buffer and the tile of the result. -/
def outPay (c : Dev nD) (r : ℕ) : sProp 𝕄 :=
  if h : r < 4 then iprop(outO c (512 * r) (by omega) (red m c r 3) ∗ accO c (r % 2) 0 512 ⟨Nat.mod_lt _ (by decide), by decide⟩ (red m c r 3)) else iprop(emp)

def dutK : CK → ℕ → Finset Bool
  | kBar, r => if r < 4 then Finset.univ else ∅
  | kOut, r => if r < 4 then {false} else ∅
  | some (some (_, _, _, j)), r => if r < nr j then {false} else ∅
def amtK : CK → ℕ → ℕ
  | kBar, _ => 1
  | kOut, _ => crOut
  | some (some (_, _, _, j)), r => cr (ln j r)
def payK (c : Dev nD) : CK → ℕ → Bool → sProp 𝕄
  | kBar, r, d => barPay c d r
  | kOut, r, _ => outPay m c r
  | kSnd d s j, r, _ => sndPay c d s j r
  | kRcv d s j, r, _ => rcvPay m c d s j r

theorem amtK_pos (k : CK) (r : ℕ) : 0 < amtK k r := by
  match k with
  | none => exact Nat.one_pos
  | some none => exact crOut_pos
  | some (some (_, _, _, j)) => exact cr_pos (ln_pos j r)

instance payK_storable (c : Dev nD) (k : CK) (r : ℕ) (d : Bool) : BI.Storable (upEmb : UEmb _ 𝕄) (payK m c k r d) := by
  match k with
  | none => show BI.Storable upEmb (barPay c d r); unfold barPay lent; infer_instance
  | some none => show BI.Storable upEmb (outPay m c r); unfold outPay; split <;> infer_instance
  | some (some (true, d, s, j)) => show BI.Storable upEmb (sndPay c d s j r); unfold sndPay; infer_instance
  | some (some (false, d, s, j)) => show BI.Storable upEmb (rcvPay m c d s j r); unfold rcvPay; split <;> infer_instance

def Rd : Rounds.Schedule (GSem nD τ sig) Bool 𝕄 where
  duties g r := if g.1.2 = .tc then (match decode g.2 with | some k => dutK k r | none => ∅) else ∅
  amount g r _ := match decode g.2 with | some k => amtK k r | none => 1
  payload g r d := match decode g.2 with | some k => payK m g.1.1 k r d | none => iprop(emp)
  amount_pos g r _ _ := by
    cases decode g.2 with
    | none => exact Nat.one_pos
    | some k => exact amtK_pos k r

instance Rd_storable (g : GSem nD τ sig) (r : ℕ) (d : Bool) : BI.Storable (upEmb : UEmb _ 𝕄) ((Rd (F := F) m).payload g r d) := by
  show BI.Storable upEmb (match decode g.2 with | some k => payK m g.1.1 k r d | none => iprop(emp))
  cases decode g.2 <;> infer_instance

theorem duties_cell (c : Dev nD) (k : CK) (r : ℕ) : (Rd (F := F) m).duties (cell c k) r = dutK k r := by
  dsimp only [Rd]; rw [if_pos rfl, decode_semOf]
theorem amount_cell (c : Dev nD) (k : CK) (r : ℕ) (d : Bool) : (Rd (F := F) m).amount (cell c k) r d = amtK k r := by
  dsimp only [Rd]; rw [decode_semOf]
theorem payload_cell (c : Dev nD) (k : CK) (r : ℕ) (d : Bool) : (Rd (F := F) m).payload (cell c k) r d = payK m c k r d := by
  dsimp only [Rd]; rw [decode_semOf]

/-- The number of rounds of a cell; none later. -/
def nrK : CK → ℕ
  | some (some (_, _, _, j)) => nr j
  | _ => 4
theorem dutK_later (k : CK) (r : ℕ) (h : nrK k ≤ r) : dutK k r = ∅ := by
  match k with
  | none => exact if_neg (Nat.not_lt.mpr h)
  | some none => exact if_neg (Nat.not_lt.mpr h)
  | some (some (_, _, _, j)) => exact if_neg (Nat.not_lt.mpr h)
theorem duties_later (c : Dev nD) (k : CK) (r : ℕ) (h : nrK k ≤ r) : (Rd (F := F) m).duties (cell c k) r = ∅ := by
  rw [duties_cell, dutK_later k r h]

theorem dutK_one {k : CK} {r : ℕ} (hk : k ≠ kBar) (hr : r < nrK k) : dutK k r = {false} := by
  match k with
  | none => exact absurd rfl hk
  | some none => exact if_pos hr
  | some (some (_, _, _, j)) => exact if_pos hr
theorem dutK_bar {r : ℕ} (hr : r < 4) : dutK kBar r = Finset.univ := if_pos hr

theorem expect_one (c : Dev nD) {k : CK} {r : ℕ} (hk : k ≠ kBar) (hr : r < nrK k) : (Rd (F := F) m).expect (cell c k) r = amtK k r := by
  unfold Schedule.expect Schedule.amountOf; rw [duties_cell, dutK_one hk hr, Finset.sum_singleton, amount_cell]
theorem expect_bar (c : Dev nD) {r : ℕ} (hr : r < 4) : (Rd (F := F) m).expect (cell c kBar) r = 2 := by
  unfold Schedule.expect Schedule.amountOf
  rw [duties_cell, dutK_bar hr, Finset.sum_congr rfl fun d _ => amount_cell m c kBar r d]; rfl

theorem rest_one (c : Dev nD) {k : CK} {r : ℕ} (hk : k ≠ kBar) (hr : r < nrK k) :
    bigSep ((Rd (F := F) m).duties (cell c k) r \ ∅) (fun d => (Rd (F := F) m).payload (cell c k) r d) = payK m c k r false := by
  rw [Finset.sdiff_empty, duties_cell, dutK_one hk hr, bigSep_singleton, payload_cell]
theorem rest_bar (c : Dev nD) {r : ℕ} (hr : r < 4) :
    bigSep ((Rd (F := F) m).duties (cell c kBar) r \ ∅) (fun d => (Rd (F := F) m).payload (cell c kBar) r d)
      = iprop(barPay c true r ∗ barPay c false r) := by
  rw [Finset.sdiff_empty, duties_cell, dutK_bar hr, bigSep_univ_eq_bigSepL [true, false] (by decide) (by decide), bigSepL_cons_cons, bigSepL_singleton,
    payload_cell, payload_cell]
  rfl

/-! ## Levels -/

def L (g : GSem nD τ sig) : Finset ℕ := if g.1.2 = .tc then Finset.range 4 else ∅
def lvK : CK → ℕ → ℕ
  | kBar, i => 8 * i + 1
  | kRcv _ s _, i => 8 * i + 2 + s.val
  | _, _ => 0
/-- Within a tile the barrier first, then the hops in order; the tiles in order; everything a device pays itself below all. -/
def lv (g : GSem nD τ sig) (i : ℕ) : ℕ := match decode g.2 with | some k => lvK k i | none => 0

theorem L_of_ne (g : GSem nD τ sig) (h : g.1.2 ≠ .tc) : L g = ∅ := if_neg h
theorem L_tc (c : Dev nD) (sm : SemLoc sig) : L ((c : Thread nD τ), sm) = Finset.range 4 := if_pos rfl
theorem lv_cell (c : Dev nD) (k : CK) (i : ℕ) : lv (cell c k) i = lvK k i := by unfold lv; rw [decode_semOf]

/-! ## What a device owes, in the order it pays -/

/-- One payment: whose cell, which, for which tile, how much. -/
abbrev Due : Type := (Dev nD × CK) × ℕ × ℕ

def owe : List Due → CellTallies nD τ sig ℕ
  | [] => 0
  | x :: l => owe l + tallyAt (cell x.1.1 x.1.2) x.2.1 x.2.2

abbrev sigDue (c : Dev nD) (i : ℕ) (d : Bool) : Due := ((src d c, kBar), i, 1)
abbrev hopDue (c : Dev nD) (r : ℕ) (d : Bool) (s : Fin 3) (j : Fin 2) : Due := ((tgt d c, kRcv d s j), tl j r, cr (ln j r))

/-- The hops left of tile `i` (not the last) after `ph + 1` of them have been started; -/
def hops (c : Dev nD) (i : ℕ) : ℕ → List Due
  | 0 => [hopDue c i true 1 0, hopDue c i false 1 0, hopDue c i true 2 0, hopDue c i false 2 0]
  | 1 => [hopDue c i true 2 0, hopDue c i false 2 0]
  | _ => []
/-- all payments of tile `i`, not the last; of the last, in two pieces each hop. -/
def dueT (c : Dev nD) (i : ℕ) : List Due :=
  sigDue c i true :: sigDue c i false :: hopDue c i true 0 0 :: hopDue c i false 0 0 :: hops c i 0
def hopPair (c : Dev nD) (s : Fin 3) : List Due :=
  [hopDue c 3 true s 0, hopDue c 3 false s 0, hopDue c 0 true s 1, hopDue c 0 false s 1]
def dueLast (c : Dev nD) : List Due :=
  sigDue c 3 true :: sigDue c 3 false :: (hopPair c 0 ++ (hopPair c 1 ++ hopPair c 2))
/-- Payments from tile `i` on. -/
def tail (c : Dev nD) : ℕ → List Due
  | 0 => dueT c 0 ++ (dueT c 1 ++ (dueT c 2 ++ dueLast c))
  | 1 => dueT c 1 ++ (dueT c 2 ++ dueLast c)
  | 2 => dueT c 2 ++ dueLast c
  | 3 => dueLast c
  | _ => []

theorem tail_lt (c : Dev nD) {i : ℕ} (h : i < 3) : tail c i = dueT c i ++ tail c (i + 1) := by
  match i, h with
  | 0, _ => rfl
  | 1, _ => rfl
  | 2, _ => rfl

theorem owe_pos {l : List Due} {g : GSem nD τ sig} {u : ℕ} (h : 0 < owe l g u) : ∃ x ∈ l, g = cell x.1.1 x.1.2 ∧ u = x.2.1 := by
  induction l with
  | nil => exact absurd h (Nat.lt_irrefl 0)
  | cons x l ih =>
    unfold owe at h
    rw [Pi.add_apply, Finsupp.add_apply, tallyAt_apply] at h
    by_cases hx : g = cell x.1.1 x.1.2 ∧ u = x.2.1
    · exact ⟨x, List.mem_cons_self, hx⟩
    · rw [if_neg hx, Nat.add_zero] at h
      obtain ⟨y, hy, e⟩ := ih h
      exact ⟨y, List.mem_cons_of_mem _ hy, e⟩

/-- Everything in the list is of a tile below four and at a level above `b`. -/
def Above (b : ℕ) (l : List Due) : Prop := ∀ x ∈ l, x.2.1 < 4 ∧ b < lvK x.1.2 x.2.1
instance (b : ℕ) (l : List Due) : Decidable (Above b l) := by unfold Above; infer_instance

theorem Above.mono {b b' : ℕ} {l : List Due} (h : Above b l) (hb : b' ≤ b) : Above b' l := fun x hx => ⟨(h x hx).1, lt_of_le_of_lt hb (h x hx).2⟩
theorem Above.append {b : ℕ} {l l' : List Due} (h : Above b l) (h' : Above b l') : Above b (l ++ l') := fun x hx =>
  (List.mem_append.mp hx).elim (h x) (h' x)

/-- A cell at or below a level may be waited for while everything owed lies above it. -/
theorem mayWait (c : Dev nD) (sm : SemLoc sig) (i b : ℕ) (hi : i < 4) (hb : lv ((c : Thread nD τ), sm) i ≤ b) {l : List Due} (hl : Above b l) :
    (levAts L lv : sProp 𝕄) ⊢ MayWait (c : Thread nD τ) sm i (owe l) :=
  MayOwe.of_cut (L := L) (lev := lv) b
    (fun p hp => by rw [Finset.mem_singleton.mp hp, L_tc]; exact Finset.mem_range.mpr hi)
    (fun g u hg => by obtain ⟨x, hx, rfl, rfl⟩ := owe_pos hg; rw [L_tc]; exact Finset.mem_range.mpr (hl x hx).1)
    (fun p hp => by rw [Finset.mem_singleton.mp hp]; exact hb)
    (fun g u hg => by obtain ⟨x, hx, rfl, rfl⟩ := owe_pos hg; rw [lv_cell]; exact (hl x hx).2)

end Cert.K

end
-- ==== Proof.Steps.lean ====
/-
One rule per kind of step: the two waits, the signal, the hop, the local copy, and a cell's closing. Each states what the
step takes and gives in the terms of the schedule, for any program text naming the right memrefs and semaphores.
-/
module

public import proofs.«01_k».proof.Proof.Sched

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What every device knows -/

/-- Every cell's invariant at some name, and that every cell has reached round 0. -/
def Recs : sProp 𝕄 := bigSep Finset.univ fun x : Dev nD × CK =>
  iprop((∃ κ, cellInv ER (Rd m) κ (cell x.1 x.2)) ∗ reached ER (cell x.1 x.2) 0)

instance Recs_persistent : BI.Persistent (Recs (F := F) m) := by unfold Recs; infer_instance

theorem Recs_get (c : Dev nD) (k : CK) :
    Recs (F := F) m ⊢ iprop((∃ κ, cellInv ER (Rd m) κ (cell c k)) ∗ reached ER (cell c k) 0) :=
  bigSep_elim (i := (c, k)) (Finset.mem_univ _)

/-- The owner of a cell at the start of a round. -/
def pos (c : Dev nD) (k : CK) (r : ℕ) : sProp 𝕄 := iprop(atPos ER (cell c k) r ∅ 0 ∗ reached ER (cell c k) r)

/-- Everything still owed, in order; -/
def due (c : Dev nD) (l : List Due) : sProp 𝕄 := iprop(∃ W, owes (c : Thread nD τ) (owe l) W)

variable {defs : Defs nD τ sig (Elt F) Λ₀}

/-! ## Waits -/

/-- A wait on one of the cells with a single payment per round: the round's payload, and the cell is at the next. -/
theorem wp_waitK {α : Type} (c : Dev nD) (kk : CK) (r i : ℕ) (l : List Due) (hk : kk ≠ kBar) (hr : r < nrK kk) (hi : i < 4) {b : ℕ}
    (hb : lvK kk i ≤ b) (hl : Above b l) {sm : DmaSem sig} (hs : SemLoc.dma sm = semOf kk)
    {sp sp' : Space} {s s' : Shape} {e e' : EltTy} {src : Memref sig .tc sp' s' e'} {dst : Memref sig .tc sp s e}
    {hsrc : src.view.WordExact} {hdst : dst.view.WordExact} (hN : dst.view.dmaCredit = amtK kk r)
    {k : PUnit → Prog (TpuEff nD τ sig (Elt F) Λ₀ .tc) α} {Q : α → sProp 𝕄} :
    iprop(Recs m ∗ levAts L lv ∗ cred (tallyAt (cell c kk) i (amtK kk r)) ∗ pos c kk r ∗ due c l)
      ⊢ iprop((payK m c kk r false ∗ pos c kk (r + 1) ∗ due c l
            -∗ wp frame (wpE defs 𝒱₀ (c : Thread nD τ) none) Set.univ (k ⟨⟩) Q)
          -∗ wp frame (wpE defs 𝒱₀ (c : Thread nD τ) none) Set.univ (.op (.waitDma2 sm src dst hsrc hdst) k) Q) := by
  iintro ⟨#HR, #Hlev, Hc, Hp, Ho⟩ Hk
  ihave Hg := (Recs_get m c kk) $$ HR
  icases Hg with ⟨⟨%κ, #HI⟩, -⟩
  unfold pos due
  icases Hp with ⟨Hat, -⟩
  icases Ho with ⟨%W, Ho⟩
  have hw : ∀ K : PUnit → sProp 𝕄, wpE defs 𝒱₀ (c : Thread nD τ) none Set.univ (.waitDma2 sm src dst hsrc hdst) K
      = waitSpec (c : Thread nD τ) Set.univ (semOf kk) (amtK kk r) K := fun K => by
    rw [wpE_waitDma2_eq, hs, hN]
  iapply (Rounds.wp_wait_rest_token 𝒱₀ ER (Rd m) (c : Thread nD τ) none (κ := κ) hw (Set.mem_univ _) i (O := owe l) (W := W) (R := r) (m := 0) (T := ∅)
      (by rw [Nat.zero_add, expect_one m c hk hr])) $$ [Hc Hat Ho]
  · isplitr; · iexact HI
    isplitl [Hc]; · iexact Hc
    isplitl [Ho]; · iexact Ho
    isplitr; · iapply (mayWait c (semOf kk) i b hi (by rw [lv_cell]; exact hb) hl); iexact Hlev
    iexact Hat
  iintro ⟨Ho, Hat, #Hr, Hpay⟩
  ihave Hp := (Entails.of_eq (rest_one m c hk hr)) $$ Hpay
  iapply Hk
  isplitl [Hp]; · iexact Hp
  isplitl [Hat]
  · isplitl [Hat]; · iexact Hat
    iexact Hr
  iexists _; iexact Ho

/-- The barrier wait of tile `i`: both neighbours' slots. -/
theorem wp_waitBar {α : Type} (c : Dev nD) (i : ℕ) (l : List Due) (hi : i < 4) (hl : Above (8 * i + 1) l) {sm : Sem sig} (hs : sm = barS)
    {k : PUnit → Prog (TpuEff nD τ sig (Elt F) Λ₀ .tc) α} {Q : α → sProp 𝕄} :
    iprop(Recs m ∗ levAts L lv ∗ cred (tallyAt (cell c kBar) i 2) ∗ pos c kBar i ∗ due c l)
      ⊢ iprop((barPay c true i ∗ barPay c false i ∗ pos c kBar (i + 1) ∗ due c l
            -∗ wp frame (wpE defs 𝒱₀ (c : Thread nD τ) none) Set.univ (k ⟨⟩) Q)
          -∗ wp frame (wpE defs 𝒱₀ (c : Thread nD τ) none) Set.univ (.op (.semWait sm 2) k) Q) := by
  subst hs
  iintro ⟨#HR, #Hlev, Hc, Hp, Ho⟩ Hk
  ihave Hg := (Recs_get m c kBar) $$ HR
  icases Hg with ⟨⟨%κ, #HI⟩, -⟩
  unfold pos due
  icases Hp with ⟨Hat, -⟩
  icases Ho with ⟨%W, Ho⟩
  iapply (Rounds.wp_wait_rest_token 𝒱₀ ER (Rd m) (c : Thread nD τ) none (κ := κ) (wpE_semWait_eq 𝒱₀ (c : Thread nD τ) none Set.univ)
      (Set.mem_univ _) i (O := owe l) (W := W) (R := i) (m := 0) (T := ∅)
      (by rw [Nat.zero_add]; exact (expect_bar m c hi).symm)) $$ [Hc Hat Ho]
  · isplitr; · iexact HI
    isplitl [Hc]; · iexact Hc
    isplitl [Ho]; · iexact Ho
    isplitr; · iapply (mayWait c (semOf kBar) i (8 * i + 1) hi (by rw [lv_cell]; exact le_refl _) hl); iexact Hlev
    iexact Hat
  iintro ⟨Ho, Hat, #Hr, Hpay⟩
  ihave Hp := (show bigSep ((Rd (F := F) m).duties ((c : Thread nD τ), SemLoc.reg barS) i \ ∅) (fun d => (Rd (F := F) m).payload ((c : Thread nD τ), SemLoc.reg barS) i d)
      ⊢ iprop(barPay c true i ∗ barPay c false i) from Entails.of_eq (rest_bar m c hi)) $$ Hpay
  icases Hp with ⟨Ht, Hf⟩
  iapply Hk
  isplitl [Ht]; · iexact Ht
  isplitl [Hf]; · iexact Hf
  isplitl [Hat]
  · isplitl [Hat]; · iexact Hat
    iexact Hr
  iexists _; iexact Ho

/-! ## Payments -/

/-- The signal to the device `c` receives direction `d` from: its slots for the tile go with it. -/
theorem wp_sig {α : Type} (c : Dev nD) (d : Bool) (i : ℕ) (l : List Due) (hi : i < 4) {n : Dev nD} (hn : n = src d c) {sm : Sem sig} (hs : sm = barS)
    {k : PUnit → Prog (TpuEff nD τ sig (Elt F) Λ₀ .tc) α} {Q : α → sProp 𝕄} :
    iprop(Recs m ∗ due c (sigDue c i d :: l) ∗ dutyTok ER (cell (src d c) kBar) i d ∗ reached ER (cell (src d c) kBar) i ∗ barPay (src d c) d i)
      ⊢ iprop((due c l -∗ wp frame (wpE defs 𝒱₀ (c : Thread nD τ) none) Set.univ (k ⟨⟩) Q)
          -∗ wp frame (wpE defs 𝒱₀ (c : Thread nD τ) none) Set.univ (.op (.semSignal (n : Thread nD τ) sm 1) k) Q) := by
  subst hn hs
  iintro ⟨#HR, Ho, Ht, #Hr, Hb⟩ Hk
  ihave Hg := (Recs_get m (src d c) kBar) $$ HR
  icases Hg with ⟨⟨%κ, #HI⟩, -⟩
  unfold due
  icases Ho with ⟨%W, Ho⟩
  iapply (Rounds.wp_signal 𝒱₀ ER (Rd m) (c : Thread nD τ) none (dst := (src d c : Thread nD τ)) (κ := κ) (r := i) (d := d) (k' := 1)
      (by rw [show ((src d c : Thread nD τ), SemLoc.reg barS) = cell (src d c) kBar from rfl, duties_cell, dutK_bar hi]; exact Finset.mem_univ _)
      (amount_cell m (src d c) kBar i d) i (owe l) rfl) $$ [Ho Ht Hb]
  · isplitr; · iexact HI
    isplitl [Ho]; · iexact Ho
    isplitl [Ht]; · iexact Ht
    isplitl [Hb]
    · iapply (show barPay (src d c) d i ⊢ (Rd (F := F) m).payload ((src d c : Thread nD τ), SemLoc.reg barS) i d
        from Entails.of_eq (payload_cell m (src d c) kBar i d).symm); iexact Hb
    iexact Hr
  iintro Ho
  iapply Hk
  iexists _; iexact Ho

/-- One hop of a tile: the rows of slot `s`, holding what the slot's name says, go into the slot `tgt d c` has lent. -/
theorem wp_hop {α : Type} (c : Dev nD) (d : Bool) (s : Fin 3) (j : Fin 2) (r : ℕ) (l : List Due) (hr : r < nr j)
    {R : ℕ} (hR : ln j r = R) {n : Dev nD} (hn : n = tgt d c)
    {srcM : Memref sig .tc .vmem (Sh2 R) .bf16} {dstM : Memref sig .tc .vmem (Sh2 R) .bf16}
    (hs : ∀ h, srcM = win (commB d) s.val (128 * j.val) R h) (hd : ∀ h, dstM = win (commB d) (s.val + 1) (128 * j.val) R h)
    {sS sR : SemLoc sig} (hsS : sS = semOf (kSnd d s j)) (hsR : sR = semOf (kRcv d s j))
    {hsc : dstM.view.ref.isScScratch = false} {hsrc : srcM.view.WordExact} {hdst : dstM.view.WordExact}
    {hsem : DmaTarget.Typed .vmem sR (.remote (Dev.tc n : Thread nD τ) dstM sS hsc)}
    {k : PUnit → Prog (TpuEff nD τ sig (Elt F) Λ₀ .tc) α} {Q : α → sProp 𝕄} {h h'} :
    iprop(Recs m ∗ due c (hopDue c r d s j :: l)
        ∗ dutyTok ER (cell c (kSnd d s j)) r false ∗ reached ER (cell c (kSnd d s j)) r
        ∗ dutyTok ER (cell (tgt d c) (kRcv d s j)) r false ∗ reached ER (cell (tgt d c) (kRcv d s j)) r
        ∗ pcO c d s.val (128 * j.val) R h (rows (128 * j.val) R (hR ▸ ln_le j r) (val m c d (tl j r) s.val))
        ∗ (∃ Y, pcO (tgt d c) d (s.val + 1) (128 * j.val) R h' Y)
        ∗ (if s = 0 ∧ j = 0 then reached ER (cell c kBar) (r + 1) else iprop(emp)))
      ⊢ iprop((cred (tallyAt (cell c (kSnd d s j)) (tl j r) (cr (ln j r))) ∗ due c l
            -∗ wp frame (wpE defs 𝒱₀ (c : Thread nD τ) none) Set.univ (k ⟨⟩) Q)
          -∗ wp frame (wpE defs 𝒱₀ (c : Thread nD τ) none) Set.univ
              (.op (.enqueueDma srcM (.remote (Dev.tc n : Thread nD τ) dstM sS hsc) sR hsrc hdst hsem) k) Q) := by
  subst hn hsS hsR hR
  obtain rfl := hs (inbOf h)
  obtain rfl := hd (inbOf h')
  iintro ⟨#HR, Ho, HtS, #HrS, HtR, #HrR, Hsrc, ⟨%Y, Hdst⟩, Hb⟩ Hk
  ihave Hg := (Recs_get m c (kSnd d s j)) $$ HR
  icases Hg with ⟨⟨%κ₁, #HI₁⟩, -⟩
  ihave Hg := (Recs_get m (tgt d c) (kRcv d s j)) $$ HR
  icases Hg with ⟨⟨%κ₂, #HI₂⟩, -⟩
  unfold due pcO ownsTc owns
  icases Ho with ⟨%W, Ho⟩
  icases Hsrc with ⟨%fs, %hfs, Hsrc⟩
  icases Hdst with ⟨%fd, %hfd, Hdst⟩
  iapply (Rounds.wp_send_pointsTo_with 𝒱₀ ER (Rd m) (c : Thread nD τ) none (c' := (tgt d c : Thread nD τ)) (κ₁ := κ₁) (κ₂ := κ₂) (r₁ := r) (r₂ := r)
      (d₁ := false) (d₂ := false) (fs := fs) (fd := fd) (q := fullShare)
      (F := iprop(if s = 0 ∧ j = 0 then reached ER (cell c kBar) (r + 1) else iprop(emp)))
      (by rw [duties_cell, dutK_one (by simp) hr]; exact Finset.mem_singleton_self _)
      (by rw [duties_cell, dutK_one (by simp) hr]; exact Finset.mem_singleton_self _)
      (tl j r) (tl j r) (cr (ln j r)) (by cases d <;> rfl)
      (amount_cell m c (kSnd d s j) r false) (amount_cell m (tgt d c) (kRcv d s j) r false) (owe l) rfl
      (by
        rw [payload_cell]
        show _ ⊢ sndPay c d s j r
        unfold sndPay pcO
        iintro H
        iexists _
        iapply (owns_intro (c : Thread nD τ) (win (commB d) s.val (128 * j.val) (ln j r) (inbOf h)) fullShare fs)
        iexact H)
      (by
        rw [payload_cell]
        show _ ⊢ rcvPay m (tgt d c) d s j r
        unfold rcvPay pcO
        rw [val_tgt, src_tgt, ← hfs]
        iintro ⟨H, Hb⟩
        isplitl [H]
        · iapply (Entails.of_eq (congrArg (owns _ _ _) (View.read_write_univ fd
            ((win (commB d) s.val (128 * j.val) (ln j r) (inbOf h)).view.read (Elt F) fs))))
          iapply (owns_intro (tgt d c : Thread nD τ) (win (commB d) (s.val + 1) (128 * j.val) (ln j r) (inbOf h')) fullShare _)
          iexact H
        iexact Hb)) $$ [Ho HtS HtR Hsrc Hdst Hb]
  · isplitr; · iexact HI₁
    isplitr; · iexact HI₂
    isplitl [Hsrc]; · iexact Hsrc
    isplitl [Hdst Hb]
    · isplitl [Hdst]; · iexact Hdst
      iexact Hb
    isplitl [Ho]; · iexact Ho
    isplitl [HtS]; · iexact HtS
    isplitr; · iexact HrS
    isplitl [HtR]; · iexact HtR
    iexact HrR
  iintro ⟨Hc, Ho⟩
  iapply Hk
  isplitl [Hc]; · iexact Hc
  iexists _; iexact Ho

/-! ## The result's copy -/

/-- The local copy of a finished tile. -/
theorem wp_out {α : Type} (c : Dev nD) (r : ℕ) (hr : r < 4)
    {srcM : Memref sig .tc .vmem (Sh2 512) .bf16} {dstM : Memref sig .tc .hbm (Sh2 512) .bf16} {h : r % 2 < 2 ∧ 0 + 512 ≤ 512} {h' : 512 * r + 512 ≤ 2048}
    (hs : srcM = win accB (r % 2) 0 512 (inbOf h)) (hd : dstM = outM (512 * r) h')
    {sR : SemLoc sig} (hsR : sR = semOf kOut)
    {hsrc : srcM.view.WordExact} {hdst : dstM.view.WordExact} {hsem : DmaTarget.Typed (nD := nD) (τ := τ) (p := Proc.tc) .vmem sR (.here dstM)}
    {k : PUnit → Prog (TpuEff nD τ sig (Elt F) Λ₀ .tc) α} {Q : α → sProp 𝕄} :
    iprop(Recs m ∗ dutyTok ER (cell c kOut) r false ∗ reached ER (cell c kOut) r
        ∗ accO c (r % 2) 0 512 h (red m c r 3) ∗ (∃ Y, outO c (512 * r) h' Y))
      ⊢ iprop((cred (tallyAt (cell c kOut) r crOut)
            -∗ wp frame (wpE defs 𝒱₀ (c : Thread nD τ) none) Set.univ (k ⟨⟩) Q)
          -∗ wp frame (wpE defs 𝒱₀ (c : Thread nD τ) none) Set.univ
              (.op (.enqueueDma srcM (.here dstM) sR hsrc hdst hsem) k) Q) := by
  subst hsR hs hd
  iintro ⟨#HR, Ht, #Hr, Hsrc, ⟨%Y, Hdst⟩⟩ Hk
  ihave Hg := (Recs_get m c kOut) $$ HR
  icases Hg with ⟨⟨%κ, #HI⟩, -⟩
  unfold accO outO ownsTc owns
  icases Hsrc with ⟨%fs, %hfs, Hsrc⟩
  icases Hdst with ⟨%fd, %hfd, Hdst⟩
  iapply (Rounds.wp_copy_pointsTo 𝒱₀ ER (Rd m) (c : Thread nD τ) none (κ := κ) (r := r) (d := false) (fs := fs) (fd := fd) (q := fullShare)
      (by rw [duties_cell, dutK_one (by simp) hr]; exact Finset.mem_singleton_self _) r crOut rfl
      (amount_cell m c kOut r false)
      (by
        rw [payload_cell]
        show _ ⊢ outPay m c r
        unfold outPay outO accO
        rw [dif_pos hr, ← hfs]
        iintro ⟨Hd, Hs⟩
        isplitl [Hd]
        · iapply (Entails.of_eq (congrArg (owns _ _ _) (View.read_write_univ fd ((win accB (r % 2) 0 512 (inbOf h)).view.read (Elt F) fs))))
          iapply (owns_intro (c : Thread nD τ) (outM (512 * r) h') fullShare _)
          iexact Hd
        · iapply (owns_intro (c : Thread nD τ) (win accB (r % 2) 0 512 (inbOf h)) fullShare fs)
          iexact Hs)) $$ [Ht Hsrc Hdst]
  · isplitr; · iexact HI
    isplitl [Hsrc]; · iexact Hsrc
    isplitl [Hdst]; · iexact Hdst
    isplitl [Ht]; · iexact Ht
    iexact Hr
  iexact Hk

/-- A cell whose rounds are over closes: its counter is zero and the core's. -/
theorem close (c : Dev nD) (k : CK) (r : ℕ) (h : nrK k ≤ r) :
    iprop(Recs m ∗ pos c k r) ⊢ iprop(|={Set.univ}=> semVal (cell c k) 0) := by
  iintro ⟨#HR, Hp⟩
  ihave Hg := (Recs_get m c k) $$ HR
  icases Hg with ⟨⟨%κ, #HI⟩, -⟩
  unfold pos
  icases Hp with ⟨Hat, -⟩
  iapply (Rounds.cell_close ER (Rd m) (Set.mem_univ κ) (fun h => h) (R := r) (fun r' hr' => duties_later m c k r' (le_trans h hr')))
  isplitr; · iexact HI
  iexact Hat

end Cert.K

end
-- ==== Proof.Moves.lean ====
/-
The kernel's recurring groups of steps: two hops started, one each way; one stage — both directions' arrivals waited for
and added to the tile; and the pieces of the state these move between.
-/
module

public import proofs.«01_k».proof.Proof.Steps

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {defs : Defs nD τ sig (Elt F) Λ₀}

/-! ## Pieces of the state -/

/-- The tokens of one hop of one piece: its two duties, and the right to wait for what arrives on it. -/
def tok (c : Dev nD) (d : Bool) (s : Fin 3) (j : Fin 2) (r : ℕ) : sProp 𝕄 :=
  iprop(dutyTok ER (cell c (kSnd d s j)) r false ∗ dutyTok ER (cell (tgt d c) (kRcv d s j)) r false
    ∗ cred (tallyAt (cell c (kRcv d s j)) (tl j r) (cr (ln j r))))
/-- Both cells of a hop at the start of round `r`. -/
def at2 (c : Dev nD) (d : Bool) (s : Fin 3) (j : Fin 2) (r : ℕ) : sProp 𝕄 :=
  iprop(pos c (kSnd d s j) r ∗ pos c (kRcv d s j) r)
/-- A hop that may start. -/
def ready (c : Dev nD) (d : Bool) (s : Fin 3) (j : Fin 2) (r : ℕ) : sProp 𝕄 :=
  iprop(tok c d s j r ∗ at2 c d s j r ∗ reached ER (cell (tgt d c) (kRcv d s j)) r)
/-- A hop that has started: both waits may be made. -/
def infl (c : Dev nD) (d : Bool) (s : Fin 3) (j : Fin 2) (r : ℕ) : sProp 𝕄 :=
  iprop(cred (tallyAt (cell c (kSnd d s j)) (tl j r) (cr (ln j r))) ∗ cred (tallyAt (cell c (kRcv d s j)) (tl j r) (cr (ln j r)))
    ∗ at2 c d s j r)

theorem slot_ok (s : Fin 3) (j : Fin 2) (r : ℕ) : s.val < 4 ∧ 128 * j.val + ln j r ≤ 256 := ⟨by have := s.isLt; omega, ln_le j r⟩
theorem slot_ok' (s : Fin 3) (j : Fin 2) (r : ℕ) : s.val + 1 < 4 ∧ 128 * j.val + ln j r ≤ 256 := ⟨by have := s.isLt; omega, ln_le j r⟩

/-- Piece `j` of slot `s`, holding what the slot's name says; -/
def pc (c : Dev nD) (d : Bool) (s : ℕ) (j : Fin 2) (r : ℕ) (h : s < 4 ∧ 128 * j.val + ln j r ≤ 256) : sProp 𝕄 :=
  pcO c d s (128 * j.val) (ln j r) h (rows (128 * j.val) (ln j r) h.2 (val m c d (tl j r) s))
/-- holding anything. -/
def pcX (c : Dev nD) (d : Bool) (s : ℕ) (j : Fin 2) (r : ℕ) (h : s < 4 ∧ 128 * j.val + ln j r ≤ 256) : sProp 𝕄 :=
  iprop(∃ X : Blk F (ln j r), pcO c d s (128 * j.val) (ln j r) h X)

/-- What a finished hop leaves: the piece that arrived, the piece that was sent, both cells at the next round, and with a
    tile's first hop that the sender's barrier cell has reached the next tile. -/
def landed (c : Dev nD) (d : Bool) (s : Fin 3) (j : Fin 2) (r : ℕ) : sProp 𝕄 :=
  iprop(pc m c d (s.val + 1) j r (slot_ok' s j r) ∗ pcX (F := F) c d s.val j r (slot_ok s j r) ∗ at2 c d s j (r + 1)
    ∗ (if s = 0 ∧ j = 0 then reached ER (cell (src d c) kBar) (r + 1) else iprop(emp)))

/-! ## Two hops -/

instance firstHop_persistent (c : Dev nD) (s : Fin 3) (j : Fin 2) (r : ℕ) :
    BI.Persistent (iprop(if s = 0 ∧ j = 0 then reached ER (cell c kBar) (r + 1) else iprop(emp)) : sProp 𝕄) := by
  split <;> infer_instance

/-- One hop, on the pieces of the state. -/
theorem wp_hop1 {α : Type} (c : Dev nD) (d : Bool) (s : Fin 3) (j : Fin 2) (r : ℕ) (l : List Due) (hr : r < nr j)
    {R : ℕ} (hR : ln j r = R) {n : Dev nD} (hn : n = tgt d c)
    {srcM : Memref sig .tc .vmem (Sh2 R) .bf16} {dstM : Memref sig .tc .vmem (Sh2 R) .bf16}
    (hs : ∀ h, srcM = win (commB d) s.val (128 * j.val) R h) (hd : ∀ h, dstM = win (commB d) (s.val + 1) (128 * j.val) R h)
    {sS sR : SemLoc sig} (hsS : sS = semOf (kSnd d s j)) (hsR : sR = semOf (kRcv d s j))
    {hsc : dstM.view.ref.isScScratch = false} {hsrc : srcM.view.WordExact} {hdst : dstM.view.WordExact}
    {hsem : DmaTarget.Typed .vmem sR (.remote (Dev.tc n : Thread nD τ) dstM sS hsc)}
    {k : PUnit → Prog (TpuEff nD τ sig (Elt F) Λ₀ .tc) α} {Q : α → sProp 𝕄} :
    iprop(Recs m ∗ due c (hopDue c r d s j :: l) ∗ ready c d s j r ∗ pc m c d s.val j r (slot_ok s j r)
        ∗ pcX (F := F) (tgt d c) d (s.val + 1) j r (slot_ok' s j r)
        ∗ (if s = 0 ∧ j = 0 then reached ER (cell c kBar) (r + 1) else iprop(emp)))
      ⊢ iprop((infl c d s j r ∗ due c l -∗ wp frame (wpE defs 𝒱₀ (c : Thread nD τ) none) Set.univ (k ⟨⟩) Q)
          -∗ wp frame (wpE defs 𝒱₀ (c : Thread nD τ) none) Set.univ
              (.op (.enqueueDma srcM (.remote (Dev.tc n : Thread nD τ) dstM sS hsc) sR hsrc hdst hsem) k) Q) := by
  subst hR
  unfold ready tok at2 infl pc pcX
  iintro ⟨#HR, Ho, ⟨⟨HtS, HtR, HcR⟩, ⟨HpS, HpR⟩, #Hrch⟩, Hsrc, Hdst, Hb⟩ Hk
  ihave #HrS := (show pos c (kSnd d s j) r ⊢ reached ER (cell c (kSnd d s j)) r from by unfold pos; iintro ⟨-, H⟩; iexact H) $$ HpS
  iapply (wp_hop m c d s j r l hr rfl hn hs hd hsS hsR) $$ [Ho HtS HtR Hsrc Hdst Hb]
  · isplitr; · iexact HR
    isplitl [Ho]; · iexact Ho
    isplitl [HtS]; · iexact HtS
    isplitr; · iexact HrS
    isplitl [HtR]; · iexact HtR
    isplitr; · iexact Hrch
    isplitl [Hsrc]; · iexact Hsrc
    isplitl [Hdst]; · iexact Hdst
    iexact Hb
  iintro ⟨Hc, Ho⟩
  iapply Hk
  isplitr [Ho]
  · isplitl [Hc]; · iexact Hc
    isplitl [HcR]; · iexact HcR
    unfold at2
    isplitl [HpS]; · iexact HpS
    iexact HpR
  iexact Ho

/-- Both directions' hop, one after the other. -/
theorem wp_hops {α : Type} (c : Dev nD) (s : Fin 3) (j : Fin 2) (r : ℕ) (l : List Due) (hr : r < nr j)
    {R : ℕ} (hR : ln j r = R) {n n' : Dev nD} (hn : n = tgt true c) (hn' : n' = tgt false c)
    {h₁ h₂ h₃ h₄} {hsc hsrc hdst hsem hsc' hsrc' hdst' hsem'}
    {k : PUnit → Prog (TpuEff nD τ sig (Elt F) Λ₀ .tc) α} {Q : α → sProp 𝕄} :
    iprop(Recs m ∗ due c (hopDue c r true s j :: hopDue c r false s j :: l)
        ∗ (ready c true s j r ∗ pc m c true s.val j r (slot_ok s j r) ∗ pcX (F := F) (tgt true c) true (s.val + 1) j r (slot_ok' s j r))
        ∗ (ready c false s j r ∗ pc m c false s.val j r (slot_ok s j r) ∗ pcX (F := F) (tgt false c) false (s.val + 1) j r (slot_ok' s j r))
        ∗ (if s = 0 ∧ j = 0 then reached ER (cell c kBar) (r + 1) else iprop(emp)))
      ⊢ iprop((infl c true s j r ∗ infl c false s j r ∗ due c l -∗ wp frame (wpE defs 𝒱₀ (c : Thread nD τ) none) Set.univ (k ⟨⟩) Q)
          -∗ wp frame (wpE defs 𝒱₀ (c : Thread nD τ) none) Set.univ
              (.op (.enqueueDma (win (Memref.whole cc0_scratch1) s.val (128 * j.val) R h₁)
                  (.remote (Dev.tc n : Thread nD τ) (win (Memref.whole cc0_scratch1) (s.val + 1) (128 * j.val) R h₂) (semOf (kSnd true s j)) hsc)
                  (semOf (kRcv true s j)) hsrc hdst hsem) fun _ =>
               .op (.enqueueDma (win (Memref.whole cc0_scratch2) s.val (128 * j.val) R h₃)
                  (.remote (Dev.tc n' : Thread nD τ) (win (Memref.whole cc0_scratch2) (s.val + 1) (128 * j.val) R h₄) (semOf (kSnd false s j)) hsc')
                  (semOf (kRcv false s j)) hsrc' hdst' hsem') k) Q) := by
  iintro ⟨#HR, Ho, ⟨Hrt, Hst, Hdt⟩, ⟨Hrf, Hsf, Hdf⟩, #Hb⟩ Hk
  iapply (wp_hop1 m c true s j r (hopDue c r false s j :: l) hr hR hn (fun _ => rfl) (fun _ => rfl) rfl rfl) $$ [Ho Hrt Hst Hdt]
  · isplitr; · iexact HR
    isplitl [Ho]; · iexact Ho
    isplitl [Hrt]; · iexact Hrt
    isplitl [Hst]; · iexact Hst
    isplitl [Hdt]; · iexact Hdt
    iexact Hb
  iintro ⟨Hit, Ho⟩
  iapply (wp_hop1 m c false s j r l hr hR hn' (fun _ => rfl) (fun _ => rfl) rfl rfl) $$ [Ho Hrf Hsf Hdf]
  · isplitr; · iexact HR
    isplitl [Ho]; · iexact Ho
    isplitl [Hrf]; · iexact Hrf
    isplitl [Hsf]; · iexact Hsf
    isplitl [Hdf]; · iexact Hdf
    iexact Hb
  iintro ⟨Hif, Ho⟩
  iapply Hk
  isplitl [Hit]; · iexact Hit
  isplitl [Hif]; · iexact Hif
  iexact Ho

/-! ## A stage -/

theorem tl_lt (j : Fin 2) (r : ℕ) (hr : r < nr j) : tl j r < 4 := by
  unfold tl; unfold nr at hr; split at hr <;> simp_all

/-- The waits for what arrives on a hop and for what was sent on it. -/
theorem wp_land {α : Type} (c : Dev nD) (d : Bool) (s : Fin 3) (j : Fin 2) (r : ℕ) (l : List Due) (hr : r < nr j)
    (hl : Above (8 * tl j r + 2 + s.val) l) {R : ℕ} (hR : ln j r = R)
    {sm sm' : DmaSem sig} (hsm : SemLoc.dma sm = semOf (kRcv d s j)) (hsm' : SemLoc.dma sm' = semOf (kSnd d s j))
    {sp sp' : Space} {S S' : Shape} {e e' : EltTy} {src : Memref sig .tc sp S e} {src' : Memref sig .tc sp' S' e'}
    {dst dst' : Memref sig .tc .vmem (Sh2 R) .bf16} (hd : dst.view.dmaCredit = cr R) (hd' : dst'.view.dmaCredit = cr R)
    {hsrc hdst hsrc' hdst'}
    {k : PUnit → Prog (TpuEff nD τ sig (Elt F) Λ₀ .tc) α} {Q : α → sProp 𝕄} :
    iprop(Recs m ∗ levAts L lv ∗ due c l ∗ infl c d s j r)
      ⊢ iprop((landed m c d s j r ∗ due c l -∗ wp frame (wpE defs 𝒱₀ (c : Thread nD τ) none) Set.univ (k ⟨⟩) Q)
          -∗ wp frame (wpE defs 𝒱₀ (c : Thread nD τ) none) Set.univ
              (.op (.waitDma2 sm src dst hsrc hdst) fun _ => .op (.waitDma2 sm' src' dst' hsrc' hdst') k) Q) := by
  subst hR
  unfold infl at2
  iintro ⟨#HR, #Hlev, Ho, HcS, HcR, HpS, HpR⟩ Hk
  iapply (wp_waitK m c (kRcv d s j) r (tl j r) l (by simp) hr (tl_lt j r hr) (b := 8 * tl j r + 2 + s.val) (le_refl _) hl hsm hd) $$ [Ho HcR HpR]
  · isplitr; · iexact HR
    isplitr; · iexact Hlev
    isplitl [HcR]; · iexact HcR
    isplitl [HpR]; · iexact HpR
    iexact Ho
  iintro ⟨Ha, HpR, Ho⟩
  iapply (wp_waitK m c (kSnd d s j) r (tl j r) l (by simp) hr (tl_lt j r hr) (b := 8 * tl j r + 2 + s.val) (Nat.zero_le _) hl hsm' hd') $$ [Ho HcS HpS]
  · isplitr; · iexact HR
    isplitr; · iexact Hlev
    isplitl [HcS]; · iexact HcS
    isplitl [HpS]; · iexact HpS
    iexact Ho
  iintro ⟨Hb, HpS, Ho⟩
  iapply Hk
  ihave Ha := (show payK m c (kRcv d s j) r false ⊢ rcvPay m c d s j r from .rfl) $$ Ha
  ihave Hb := (show payK m c (kSnd d s j) r false ⊢ sndPay (F := F) c d s j r from .rfl) $$ Hb
  isplitr [Ho]
  · unfold landed at2 rcvPay sndPay pc pcX
    icases Ha with ⟨Ha, Ha'⟩
    isplitl [Ha]; · iexact Ha
    isplitl [Hb]; · iexact Hb
    isplitl [HpS HpR]
    · isplitl [HpS]; · iexact HpS
      iexact HpR
    iexact Ha'
  iexact Ho

/-- An arrived piece added to its rows of the tile. -/
theorem wp_add {α : Type} (c : Dev nD) (d : Bool) (p a s b R : ℕ) {hp : p < 2 ∧ a + R ≤ 512} {hs : s < 4 ∧ b + R ≤ 256} (X Y : Blk F R)
    {B : Memref sig .tc .vmem S4x256x2048 .bf16} (hB : B = commB d)
    {off off' off'' : Fin 3 → ℕ} (ho : off = ![p, a, 0]) (ho' : off' = ![s, b, 0]) (ho'' : off'' = ![p, a, 0])
    {inb₁ inb₂ inb₃ inb₄} {hl₁ hl₂ hl₃ hx hm}
    (pay : Vec F (Sh3 1 R) .bf16 → Vec F (Sh3 1 R) .bf16 → Vec F (Sh3 1 R) .bf16) (hw : ∀ X Y, dn (pay (up X) (up Y)) = add X Y)
    {k : PUnit → Prog (TpuEff nD τ sig (Elt F) Λ₀ .tc) α} {Q : α → sProp 𝕄} :
    iprop(accO c p a R hp X ∗ pcO c d s b R hs Y)
      ⊢ iprop((accO c p a R hp (add X Y) ∗ pcO c d s b R hs Y -∗ wp frame (wpE defs 𝒱₀ (c : Thread nD τ) none) Set.univ (k ⟨⟩) Q)
          -∗ wp frame (wpE defs 𝒱₀ (c : Thread nD τ) none) Set.univ
              (.op (.load (Memref.whole cc0_scratch0) (Rect.unit (s := Sh3 2 512) off (Sh3 1 R).size inb₁).toLoadRect hl₁) fun v =>
               .op (.load B (Rect.unit (s := Sh3 4 256) off' (Sh3 1 R).size inb₂).toLoadRect hl₂) fun w =>
               .op (.load (Memref.whole cc0_scratch0) (Rect.unit (s := Sh3 2 512) off'' (Sh3 1 R).size inb₃).toLoadRect hl₃) fun _ =>
               .op (.store (Memref.whole cc0_scratch0) (Rect.unit (s := Sh3 2 512) off'' (Sh3 1 R).size inb₄) (pay v w) Finset.univ hx hm) k) Q) := by
  subst hB
  unfold accO pcO
  iintro ⟨Ha, Hb⟩ Hk
  iapply (wp_load_win c ho X) $$ [Ha]; · iexact Ha
  iintro Ha
  iapply (wp_load_win c ho' Y) $$ [Hb]; · iexact Hb
  iintro Hb
  iapply (wp_load_win c ho'' X) $$ [Ha]; · iexact Ha
  iintro Ha
  iapply (wp_store_win c ho'' X (add X Y) (hw X Y)) $$ [Ha]; · iexact Ha
  iintro Ha
  iapply Hk
  isplitl [Ha]; · iexact Ha
  iexact Hb

/-- One stage of one piece: both directions' arrivals waited for, then added to the tile's upper and lower rows. -/
theorem wp_stage {α : Type} (c : Dev nD) (s : Fin 3) (j : Fin 2) (r : ℕ) (l : List Due) (hr : r < nr j)
    (hl : Above (8 * tl j r + 2 + s.val) l) {R : ℕ} (hR : ln j r = R) (p a a' : ℕ) {hp : p < 2 ∧ a + R ≤ 512} {hp' : p < 2 ∧ a' + R ≤ 512}
    (X Y : Blk F R)
    {sm₁ sm₂ sm₃ sm₄ : DmaSem sig} (hsm₁ : SemLoc.dma sm₁ = semOf (kRcv true s j)) (hsm₂ : SemLoc.dma sm₂ = semOf (kSnd true s j))
    (hsm₃ : SemLoc.dma sm₃ = semOf (kRcv false s j)) (hsm₄ : SemLoc.dma sm₄ = semOf (kSnd false s j))
    {sp₁ sp₂ sp₃ sp₄ : Space} {S₁ S₂ S₃ S₄ : Shape} {e₁ e₂ e₃ e₄ : EltTy} {src₁ : Memref sig .tc sp₁ S₁ e₁} {src₂ : Memref sig .tc sp₂ S₂ e₂}
    {src₃ : Memref sig .tc sp₃ S₃ e₃} {src₄ : Memref sig .tc sp₄ S₄ e₄}
    {b₁ b₂ b₃ b₄ : ℕ} {h₁ h₂ h₃ h₄} {hsrc₁ hdst₁ hsrc₂ hdst₂ hsrc₃ hdst₃ hsrc₄ hdst₄}
    {off₁ off₂ off₃ off₄ : Fin 3 → ℕ} (ho₁ : off₁ = ![p, a, 0]) (ho₂ : off₂ = ![p, a', 0])
    (ho₃ : off₃ = ![s.val + 1, 128 * j.val, 0]) (ho₄ : off₄ = ![s.val + 1, 128 * j.val, 0])
    {inb₁ inb₂ inb₃ inb₄ inb₅ inb₆ inb₇ inb₈} {hl₁ hl₂ hl₃ hl₄ hl₅ hl₆ hx hm hx' hm'}
    (pay pay' : Vec F (Sh3 1 R) .bf16 → Vec F (Sh3 1 R) .bf16 → Vec F (Sh3 1 R) .bf16)
    (hw : ∀ X Y, dn (pay (up X) (up Y)) = add X Y) (hw' : ∀ X Y, dn (pay' (up X) (up Y)) = add X Y)
    {k : PUnit → Prog (TpuEff nD τ sig (Elt F) Λ₀ .tc) α} {Q : α → sProp 𝕄} :
    iprop(Recs m ∗ levAts L lv ∗ due c l ∗ infl c true s j r ∗ infl c false s j r ∗ accO c p a R hp X ∗ accO c p a' R hp' Y)
      ⊢ iprop((landed m c true s j r ∗ landed m c false s j r ∗ due c l
            ∗ accO c p a R hp (add X (rows (128 * j.val) R (hR ▸ ln_le j r) (val m c true (tl j r) (s.val + 1))))
            ∗ accO c p a' R hp' (add Y (rows (128 * j.val) R (hR ▸ ln_le j r) (val m c false (tl j r) (s.val + 1))))
            -∗ wp frame (wpE defs 𝒱₀ (c : Thread nD τ) none) Set.univ (k ⟨⟩) Q)
          -∗ wp frame (wpE defs 𝒱₀ (c : Thread nD τ) none) Set.univ
              (.op (.waitDma2 sm₁ src₁ (win (Memref.whole cc0_scratch1) b₁ (128 * j.val) R h₁) hsrc₁ hdst₁) fun _ =>
               .op (.waitDma2 sm₂ src₂ (win (Memref.whole cc0_scratch1) b₂ (128 * j.val) R h₂) hsrc₂ hdst₂) fun _ =>
               .op (.waitDma2 sm₃ src₃ (win (Memref.whole cc0_scratch2) b₃ (128 * j.val) R h₃) hsrc₃ hdst₃) fun _ =>
               .op (.waitDma2 sm₄ src₄ (win (Memref.whole cc0_scratch2) b₄ (128 * j.val) R h₄) hsrc₄ hdst₄) fun _ =>
               .op (.load (Memref.whole cc0_scratch0) (Rect.unit (s := Sh3 2 512) off₁ (Sh3 1 R).size inb₁).toLoadRect hl₁) fun v =>
               .op (.load (Memref.whole cc0_scratch1) (Rect.unit (s := Sh3 4 256) off₃ (Sh3 1 R).size inb₂).toLoadRect hl₂) fun w =>
               .op (.load (Memref.whole cc0_scratch0) (Rect.unit (s := Sh3 2 512) off₁ (Sh3 1 R).size inb₃).toLoadRect hl₃) fun _ =>
               .op (.store (Memref.whole cc0_scratch0) (Rect.unit (s := Sh3 2 512) off₁ (Sh3 1 R).size inb₄) (pay v w) Finset.univ hx hm) fun _ =>
               .op (.load (Memref.whole cc0_scratch0) (Rect.unit (s := Sh3 2 512) off₂ (Sh3 1 R).size inb₅).toLoadRect hl₄) fun v =>
               .op (.load (Memref.whole cc0_scratch2) (Rect.unit (s := Sh3 4 256) off₄ (Sh3 1 R).size inb₆).toLoadRect hl₅) fun w =>
               .op (.load (Memref.whole cc0_scratch0) (Rect.unit (s := Sh3 2 512) off₂ (Sh3 1 R).size inb₇).toLoadRect hl₆) fun _ =>
               .op (.store (Memref.whole cc0_scratch0) (Rect.unit (s := Sh3 2 512) off₂ (Sh3 1 R).size inb₈) (pay' v w) Finset.univ hx' hm') k) Q) := by
  subst hR
  iintro ⟨#HR, #Hlev, Ho, Hit, Hif, Hat, Haf⟩ Hk
  iapply (wp_land m c true s j r l hr hl rfl hsm₁ hsm₂ rfl rfl) $$ [Ho Hit]
  · isplitr; · iexact HR
    isplitr; · iexact Hlev
    isplitl [Ho]; · iexact Ho
    iexact Hit
  iintro ⟨Hlt, Ho⟩
  iapply (wp_land m c false s j r l hr hl rfl hsm₃ hsm₄ rfl rfl) $$ [Ho Hif]
  · isplitr; · iexact HR
    isplitr; · iexact Hlev
    isplitl [Ho]; · iexact Ho
    iexact Hif
  iintro ⟨Hlf, Ho⟩
  unfold landed pc
  icases Hlt with ⟨Hpt, Hlt⟩
  icases Hlf with ⟨Hpf, Hlf⟩
  iapply (wp_add c true p a (s.val + 1) (128 * j.val) (ln j r) X _ rfl ho₁ ho₃ ho₁ pay hw) $$ [Hat Hpt]
  · isplitl [Hat]; · iexact Hat
    iexact Hpt
  iintro ⟨Hat, Hpt⟩
  iapply (wp_add c false p a' (s.val + 1) (128 * j.val) (ln j r) Y _ rfl ho₂ ho₄ ho₂ pay' hw') $$ [Haf Hpf]
  · isplitl [Haf]; · iexact Haf
    iexact Hpf
  iintro ⟨Haf, Hpf⟩
  iapply Hk
  isplitl [Hpt Hlt]
  · isplitl [Hpt]; · iexact Hpt
    iexact Hlt
  isplitl [Hpf Hlf]
  · isplitl [Hpf]; · iexact Hpf
    iexact Hlf
  isplitl [Ho]; · iexact Ho
  isplitl [Hat]; · iexact Hat
  iexact Haf

end Cert.K

end
-- ==== Proof.Facts.lean ====
/-
What the program's computed offsets, conditions and device numbers are, by evaluation over the grid and the ring.
-/
module

public import proofs.«01_k».proof.Proof.Sched

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Offsets -/

theorem off1_eq : ∀ i : grid0.Coords, k0_off1 i = ![(i 0).val % 2, 0, 0] := by decide +kernel
theorem off2_eq : ∀ i : grid0.Coords, k0_off2 i = ![(i 0).val % 2, 0, 0] := by decide +kernel
theorem off11_eq : ∀ i : grid0.Coords, k0_off11 i = ![(i 0).val % 2, 0, 0] := by decide +kernel
theorem off12_eq : ∀ i : grid0.Coords, k0_off12 i = ![(i 0).val % 2, 256, 0] := by decide +kernel
theorem off3_eq : ∀ i : grid0.Coords, 0 < (i 0).val → k0_off3 i = ![((i 0).val - 1) % 2, 0, 0] := by decide +kernel
theorem off5_eq : ∀ i : grid0.Coords, 0 < (i 0).val → k0_off5 i = ![((i 0).val - 1) % 2, 0, 0] := by decide +kernel
theorem off7_eq : ∀ i : grid0.Coords, 0 < (i 0).val → k0_off7 i = ![((i 0).val - 1) % 2, 0, 0] := by decide +kernel
theorem off10_eq : ∀ i : grid0.Coords, 0 < (i 0).val → k0_off10 i = ![((i 0).val - 1) % 2, 0, 0] := by decide +kernel
theorem off4_eq : ∀ i : grid0.Coords, 0 < (i 0).val → k0_off4 i = ![((i 0).val - 1) % 2, 256, 0] := by decide +kernel
theorem off6_eq : ∀ i : grid0.Coords, 0 < (i 0).val → k0_off6 i = ![((i 0).val - 1) % 2, 256, 0] := by decide +kernel
theorem off8_eq : ∀ i : grid0.Coords, 0 < (i 0).val → k0_off8 i = ![((i 0).val - 1) % 2, 256, 0] := by decide +kernel
theorem off9_eq : ∀ i : grid0.Coords, 0 < (i 0).val → k0_off9 i = ![512 * ((i 0).val - 1), 0] := by decide +kernel
theorem off13_eq : ∀ i : grid0.Coords, (i 0).val = 3 → k0_off13 i = ![1, 0, 0] := by decide +kernel
theorem off14_eq : ∀ i : grid0.Coords, (i 0).val = 3 → k0_off14 i = ![1, 256, 0] := by decide +kernel
theorem off15_eq : ∀ i : grid0.Coords, (i 0).val = 3 → k0_off15 i = ![1, 128, 0] := by decide +kernel
theorem off16_eq : ∀ i : grid0.Coords, (i 0).val = 3 → k0_off16 i = ![1, 384, 0] := by decide +kernel
theorem off18_eq : ∀ i : grid0.Coords, (i 0).val = 3 → k0_off18 i = ![1, 0, 0] := by decide +kernel
theorem off17_eq : ∀ i : grid0.Coords, (i 0).val = 3 → k0_off17 i = ![1536, 0] := by decide +kernel

/-! ## Conditions -/

theorem cond1_iff : ∀ i : grid0.Coords, k0_cond1 i = 1#1 ↔ (i 1).val = 0 := by decide +kernel
theorem cond2_iff : ∀ i : grid0.Coords, k0_cond2 i = 1#1 ↔ 0 < (i 1).val := by decide +kernel
theorem cond3_iff : ∀ i : grid0.Coords, k0_cond3 i = 1#1 ↔ 0 < (i 0).val ∧ (i 1).val = 4 := by decide +kernel
theorem cond4_iff : ∀ i : grid0.Coords, k0_cond4 i = 1#1 ↔ 0 < (i 0).val ∧ (i 1).val = 9 := by decide +kernel
theorem cond5_iff : ∀ i : grid0.Coords, k0_cond5 i = 1#1 ↔ 0 < (i 0).val ∧ (i 1).val = 14 := by decide +kernel
theorem cond6_iff : ∀ i : grid0.Coords, k0_cond6 i = 1#1 ↔ (i 1).val = 15 := by decide +kernel
theorem cond7_iff : ∀ i : grid0.Coords, k0_cond7 i = 1#1 ↔ (i 0).val < 3 := by decide +kernel
theorem cond8_iff : ∀ i : grid0.Coords, k0_cond8 i = 1#1 ↔ (i 0).val = 3 := by decide +kernel

/-! ## Devices -/

theorem toRing {n : ℕ} {x : Dev nD} (e : n = x.val) {h : n < nD} : (⟨n, h⟩ : Dev nD) = x := Fin.ext e

theorem dev1_eq (c : Dev nD) (h : k0_dev1 c < nD) : (⟨k0_dev1 c, h⟩ : Dev nD) = tgt true c := toRing (by clear h; revert c; decide)
theorem dev2_eq (c : Dev nD) (h : k0_dev2 c < nD) : (⟨k0_dev2 c, h⟩ : Dev nD) = tgt false c := toRing (by clear h; revert c; decide)
theorem dev3_eq (c : Dev nD) (h : k0_dev3 c < nD) : (⟨k0_dev3 c, h⟩ : Dev nD) = tgt true c := toRing (by clear h; revert c; decide)
theorem dev4_eq (c : Dev nD) (h : k0_dev4 c < nD) : (⟨k0_dev4 c, h⟩ : Dev nD) = tgt false c := toRing (by clear h; revert c; decide)
theorem dev5_eq (c : Dev nD) (h : k0_dev5 c < nD) : (⟨k0_dev5 c, h⟩ : Dev nD) = src true c := toRing (by clear h; revert c; decide)
theorem dev6_eq (c : Dev nD) (h : k0_dev6 c < nD) : (⟨k0_dev6 c, h⟩ : Dev nD) = src false c := toRing (by clear h; revert c; decide)
theorem dev7_eq (c : Dev nD) (h : k0_dev7 c < nD) : (⟨k0_dev7 c, h⟩ : Dev nD) = tgt true c := toRing (by clear h; revert c; decide)
theorem dev8_eq (c : Dev nD) (h : k0_dev8 c < nD) : (⟨k0_dev8 c, h⟩ : Dev nD) = tgt false c := toRing (by clear h; revert c; decide)
theorem dev9_eq (c : Dev nD) (h : k0_dev9 c < nD) : (⟨k0_dev9 c, h⟩ : Dev nD) = tgt true c := toRing (by clear h; revert c; decide)
theorem dev10_eq (c : Dev nD) (h : k0_dev10 c < nD) : (⟨k0_dev10 c, h⟩ : Dev nD) = tgt false c := toRing (by clear h; revert c; decide)
theorem dev11_eq (c : Dev nD) (h : k0_dev11 c < nD) : (⟨k0_dev11 c, h⟩ : Dev nD) = tgt true c := toRing (by clear h; revert c; decide)
theorem dev12_eq (c : Dev nD) (h : k0_dev12 c < nD) : (⟨k0_dev12 c, h⟩ : Dev nD) = tgt false c := toRing (by clear h; revert c; decide)
theorem dev13_eq (c : Dev nD) (h : k0_dev13 c < nD) : (⟨k0_dev13 c, h⟩ : Dev nD) = tgt true c := toRing (by clear h; revert c; decide)
theorem dev14_eq (c : Dev nD) (h : k0_dev14 c < nD) : (⟨k0_dev14 c, h⟩ : Dev nD) = tgt false c := toRing (by clear h; revert c; decide)
theorem dev15_eq (c : Dev nD) (h : k0_dev15 c < nD) : (⟨k0_dev15 c, h⟩ : Dev nD) = tgt true c := toRing (by clear h; revert c; decide)
theorem dev16_eq (c : Dev nD) (h : k0_dev16 c < nD) : (⟨k0_dev16 c, h⟩ : Dev nD) = tgt false c := toRing (by clear h; revert c; decide)
theorem dev17_eq (c : Dev nD) (h : k0_dev17 c < nD) : (⟨k0_dev17 c, h⟩ : Dev nD) = tgt true c := toRing (by clear h; revert c; decide)
theorem dev18_eq (c : Dev nD) (h : k0_dev18 c < nD) : (⟨k0_dev18 c, h⟩ : Dev nD) = tgt false c := toRing (by clear h; revert c; decide)
theorem dev19_eq (c : Dev nD) (h : k0_dev19 c < nD) : (⟨k0_dev19 c, h⟩ : Dev nD) = tgt true c := toRing (by clear h; revert c; decide)
theorem dev20_eq (c : Dev nD) (h : k0_dev20 c < nD) : (⟨k0_dev20 c, h⟩ : Dev nD) = tgt false c := toRing (by clear h; revert c; decide)

/-! ## Grid points -/

theorem coords_0 : ∀ t : Fin cfg0.N, ((cfg0.grid.coords t) 0).val = t.val / 16 := by decide +kernel
theorem coords_1 : ∀ t : Fin cfg0.N, ((cfg0.grid.coords t) 1).val = t.val % 16 := by decide +kernel

end Cert.K

end
-- ==== Proof.Mlp.lean ====
/-
The grid step's first part: the four staged blocks loaded, their product added to the tile's buffer.
-/
module

public import proofs.«01_k».proof.Proof.Moves
public import proofs.«01_k».proof.Proof.Facts

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {defs : Defs nD τ sig (Elt F) Λ₀}

/-! ## Payloads -/

theorem pay_add {R : ℕ} (h₁ h₂ : (Sh3 1 R).ShapeCasts (Sh2 R)) (h₃ : (Sh2 R).ShapeCasts (Sh3 1 R)) (X Y : Blk F R) :
    dn (shapeCast (Sh3 1 R) (addf (s := Sh2 R) (φ := .bf16) (shapeCast (Sh2 R) (up X) h₁) (shapeCast (Sh2 R) (up Y) h₂)) h₃) = add X Y := by
  rw [shapeCast_dn, shapeCast_dn, shapeCast_up, dn_up, dn_up, dn_up]; rfl

theorem pay_copy {R : ℕ} (h₁ : (Sh3 1 R).ShapeCasts (Sh2 R)) (h₃ : (Sh2 R).ShapeCasts (Sh3 1 R)) (X : Blk F R) :
    dn (shapeCast (Sh3 1 R) (shapeCast (Sh2 R) (up X) h₁) h₃) = X := by
  rw [shapeCast_dn, shapeCast_up, dn_up, dn_up]

/-! ## Loading a staged block whole -/

theorem wp_load_full {α : Type} (c : Dev nD) {A B : ℕ} {b : Memref sig .tc (.core .vmem) ⟨2, ![A, B]⟩ .bf16}
    {inb : ∀ x, (![0, 0] : Fin 2 → ℕ) x + (⟨2, ![A, B]⟩ : Shape).size x ≤ (⟨2, ![A, B]⟩ : Shape).size x}
    {hl : b.view.LoadsAt (Rect.unit (s := ⟨2, ![A, B]⟩) ![0, 0] (⟨2, ![A, B]⟩ : Shape).size inb).toLoadRect}
    {k : Vec F ⟨2, ![A, B]⟩ .bf16 → Prog (TpuEff nD τ sig (Elt F) Λ₀ .tc) α} {Q : α → sProp 𝕄} (X : (⟨2, ![A, B]⟩ : Shape).Idx → Elt F .bf16) :
    (ownsTc c b fullShare X : sProp 𝕄)
      ⊢ iprop((ownsTc c b fullShare X -∗ wp frame (wpE defs 𝒱₀ (c : Thread nD τ) none) Set.univ (k X) Q)
        -∗ wp frame (wpE defs 𝒱₀ (c : Thread nD τ) none) Set.univ
            (.op (.load b (Rect.unit (s := ⟨2, ![A, B]⟩) ![0, 0] (⟨2, ![A, B]⟩ : Shape).size inb).toLoadRect hl) k) Q) := by
  unfold ownsTc owns
  iintro ⟨%f, %hf, H⟩ Hk
  have hv : b.view.readAt (Elt F) (Rect.unit (s := ⟨2, ![A, B]⟩) ![0, 0] (⟨2, ![A, B]⟩ : Shape).size inb).toLoadRect f = X := by
    subst hf
    funext y
    show b.view.read (Elt F) f _ = b.view.read (Elt F) f y
    refine congrArg _ (funext fun x => ?_)
    match x with
    | 0 => exact Fin.ext (by show 0 + 1 * (y 0).val = (y 0).val; omega)
    | 1 => exact Fin.ext (by show 0 + 1 * (y 1).val = (y 1).val; omega)
  iapply (wp_load 𝒱₀ (c : Thread nD τ) none Set.univ (m := b) (S := b.view.set) (f := f) (q := fullShare) (hl := hl)
    (r := (Rect.unit (s := ⟨2, ![A, B]⟩) ![0, 0] (⟨2, ![A, B]⟩ : Shape).size inb).toLoadRect) (View.setOn_subset_set _ _)) $$ [H]
  · iexact H
  iintro H
  rw [hv]
  iapply Hk
  iexists f
  isplitr; · ipureintro; exact hf
  iexact H

/-! ## The grid step's product -/

/-- The four staged blocks at a grid point, held. -/
def staged (c : Dev nD) (t : Fin cfg0.N) : sProp 𝕄 :=
  iprop(ownsTc c (st0_0 t) fullShare (iblk m c 0 t) ∗ ownsTc c (st0_1 t) fullShare (iblk m c 1 t)
    ∗ ownsTc c (st0_2 t) fullShare (iblk m c 2 t) ∗ ownsTc c (st0_3 t) fullShare (iblk m c 3 t))

/-- The step that begins a tile stores its product; -/
theorem wp_mlp0 {α : Type} (c : Dev nD) (t : Fin cfg0.N) (p : ℕ) {hp : p < 2 ∧ 0 + 512 ≤ 512} (X : Blk F 512)
    {off : Fin 3 → ℕ} (ho : off = ![p, 0, 0])
    {inb₁ inb₂ inb₃ inb₄ inb₅ inb₆ inb₇} {hl₁ hl₂ hl₃ hl₄ hl₅ hl₆ hx hm}
    {k : PUnit → Prog (TpuEff nD τ sig (Elt F) Λ₀ .tc) α} {Q : α → sProp 𝕄} :
    iprop(staged m c t ∗ accO c p 0 512 hp X)
      ⊢ iprop((staged m c t ∗ accO c p 0 512 hp (mlp m c t) -∗ wp frame (wpE defs 𝒱₀ (c : Thread nD τ) none) Set.univ (k ⟨⟩) Q)
          -∗ wp frame (wpE defs 𝒱₀ (c : Thread nD τ) none) Set.univ
              (.op (.load (st0_1 t) (Rect.unit (s := S2048x256) ![0, 0] S2048x256.size inb₁).toLoadRect hl₁) fun g =>
               .op (.load (st0_2 t) (Rect.unit (s := S2048x256) ![0, 0] S2048x256.size inb₂).toLoadRect hl₂) fun u =>
               .op (.load (st0_3 t) (Rect.unit (s := S256x2048) ![0, 0] S256x2048.size inb₃).toLoadRect hl₃) fun w =>
               .op (.load (st0_0 t) (Rect.unit (s := S512x2048) ![0, 0] S512x2048.size inb₄).toLoadRect hl₄) fun x =>
               .op (.load (st0_0 t) (Rect.unit (s := S512x2048) ![0, 0] S512x2048.size inb₅).toLoadRect hl₅) fun x' =>
               .op (.load (Memref.whole cc0_scratch0) (Rect.unit (s := Sh3 2 512) off (Sh3 1 512).size inb₆).toLoadRect hl₆) fun _ =>
               .op (.store (Memref.whole cc0_scratch0) (Rect.unit (s := Sh3 2 512) off (Sh3 1 512).size inb₇) (k0_pay28 g u w x x') Finset.univ hx hm) k) Q) := by
  unfold staged accO
  iintro ⟨⟨H0, H1, H2, H3⟩, Ha⟩ Hk
  iapply (wp_load_full c (iblk m c 1 t)) $$ [H1]; · iexact H1
  iintro H1
  iapply (wp_load_full c (iblk m c 2 t)) $$ [H2]; · iexact H2
  iintro H2
  iapply (wp_load_full c (iblk m c 3 t)) $$ [H3]; · iexact H3
  iintro H3
  iapply (wp_load_full c (iblk m c 0 t)) $$ [H0]; · iexact H0
  iintro H0
  iapply (wp_load_full c (iblk m c 0 t)) $$ [H0]; · iexact H0
  iintro H0
  iapply (wp_load_win c ho X) $$ [Ha]; · iexact Ha
  iintro Ha
  iapply (wp_store_win c ho X (mlp m c t) (by unfold mlp k0_pay28; exact (congrArg dn (shapeCast_up _ _)).trans (dn_up _))) $$ [Ha]; · iexact Ha
  iintro Ha
  iapply Hk
  isplitr [Ha]
  · isplitl [H0]; · iexact H0
    isplitl [H1]; · iexact H1
    isplitl [H2]; · iexact H2
    iexact H3
  iexact Ha

/-- every other step adds it. -/
theorem wp_mlp {α : Type} (c : Dev nD) (t : Fin cfg0.N) (p : ℕ) {hp : p < 2 ∧ 0 + 512 ≤ 512} (X : Blk F 512)
    {off : Fin 3 → ℕ} (ho : off = ![p, 0, 0])
    {inb₁ inb₂ inb₃ inb₄ inb₅ inb₆ inb₇ inb₈} {hl₁ hl₂ hl₃ hl₄ hl₅ hl₆ hl₇ hx hm}
    {k : PUnit → Prog (TpuEff nD τ sig (Elt F) Λ₀ .tc) α} {Q : α → sProp 𝕄} :
    iprop(staged m c t ∗ accO c p 0 512 hp X)
      ⊢ iprop((staged m c t ∗ accO c p 0 512 hp (add X (mlp m c t)) -∗ wp frame (wpE defs 𝒱₀ (c : Thread nD τ) none) Set.univ (k ⟨⟩) Q)
          -∗ wp frame (wpE defs 𝒱₀ (c : Thread nD τ) none) Set.univ
              (.op (.load (st0_1 t) (Rect.unit (s := S2048x256) ![0, 0] S2048x256.size inb₁).toLoadRect hl₁) fun g =>
               .op (.load (st0_2 t) (Rect.unit (s := S2048x256) ![0, 0] S2048x256.size inb₂).toLoadRect hl₂) fun u =>
               .op (.load (st0_3 t) (Rect.unit (s := S256x2048) ![0, 0] S256x2048.size inb₃).toLoadRect hl₃) fun w =>
               .op (.load (st0_0 t) (Rect.unit (s := S512x2048) ![0, 0] S512x2048.size inb₄).toLoadRect hl₄) fun x =>
               .op (.load (st0_0 t) (Rect.unit (s := S512x2048) ![0, 0] S512x2048.size inb₅).toLoadRect hl₅) fun x' =>
               .op (.load (Memref.whole cc0_scratch0) (Rect.unit (s := Sh3 2 512) off (Sh3 1 512).size inb₆).toLoadRect hl₆) fun v =>
               .op (.load (Memref.whole cc0_scratch0) (Rect.unit (s := Sh3 2 512) off (Sh3 1 512).size inb₇).toLoadRect hl₇) fun _ =>
               .op (.store (Memref.whole cc0_scratch0) (Rect.unit (s := Sh3 2 512) off (Sh3 1 512).size inb₈) (k0_pay29 g u w x x' v) Finset.univ hx hm) k) Q) := by
  unfold staged accO
  iintro ⟨⟨H0, H1, H2, H3⟩, Ha⟩ Hk
  iapply (wp_load_full c (iblk m c 1 t)) $$ [H1]; · iexact H1
  iintro H1
  iapply (wp_load_full c (iblk m c 2 t)) $$ [H2]; · iexact H2
  iintro H2
  iapply (wp_load_full c (iblk m c 3 t)) $$ [H3]; · iexact H3
  iintro H3
  iapply (wp_load_full c (iblk m c 0 t)) $$ [H0]; · iexact H0
  iintro H0
  iapply (wp_load_full c (iblk m c 0 t)) $$ [H0]; · iexact H0
  iintro H0
  iapply (wp_load_win c ho X) $$ [Ha]; · iexact Ha
  iintro Ha
  iapply (wp_load_win c ho X) $$ [Ha]; · iexact Ha
  iintro Ha
  iapply (wp_store_win c ho X (add X (mlp m c t)) (by
    unfold mlp k0_pay29
    show dn (shapeCast (Sh3 1 512) (addf (s := Sh2 512) (φ := .bf16) (shapeCast (Sh2 512) (up X) _) _) _) = _
    rw [shapeCast_up, shapeCast_dn, dn_up, dn_up]; rfl)) $$ [Ha]; · iexact Ha
  iintro Ha
  iapply Hk
  isplitr [Ha]
  · isplitl [H0]; · iexact H0
    isplitl [H1]; · iexact H1
    isplitl [H2]; · iexact H2
    iexact H3
  iexact Ha

end Cert.K

end
-- ==== Proof.State.lean ====
/-
What a device holds between two grid points: where its two directions' hops stand, the two tiles in its accumulator, the
finished tiles of the result, and the tokens of the tiles to come.
-/
module

public import proofs.«01_k».proof.Proof.Mlp

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The ring's state, one direction -/

/-- A hop of a tile that may start once its rows are there: its tokens, its cells, and the slot lent for it. -/
def todo (c : Dev nD) (d : Bool) (i : ℕ) (s : Fin 3) : sProp 𝕄 :=
  iprop(tok (F := F) c d s 0 i ∗ at2 c d s 0 i ∗ lent (F := F) c d i s)
/-- A hop of a tile that is over: its cells at the next round, and the device's own slot back. -/
def done (c : Dev nD) (d : Bool) (r : ℕ) (s : Fin 3) : sProp 𝕄 :=
  iprop(at2 (F := F) c d s 0 r ∗ slotX (F := F) c d s.val (by have := s.isLt; omega))
/-- The device that will be signalled has reached round `r` of its barrier. -/
def nextBar (c : Dev nD) (d : Bool) (r : ℕ) : sProp 𝕄 := reached ER (cell (src d c) kBar) r
instance nextBar_persistent (c : Dev nD) (d : Bool) (r : ℕ) : BI.Persistent (nextBar (F := F) c d r) := by unfold nextBar; infer_instance
/-- Nothing under way. -/
def idle (c : Dev nD) (d : Bool) (r : ℕ) : sProp 𝕄 :=
  iprop(done (F := F) c d r 0 ∗ done (F := F) c d r 1 ∗ done (F := F) c d r 2 ∗ slotX (F := F) c d 3 (by decide) ∗ nextBar c d r)
/-- Tile `i`'s reduction after `p` of its stages. -/
def fl (c : Dev nD) (d : Bool) (i : ℕ) : ℕ → sProp 𝕄
  | 0 => iprop(infl (F := F) c d 0 0 i ∗ todo c d i 1 ∗ todo c d i 2)
  | 1 => iprop(done (F := F) c d (i + 1) 0 ∗ nextBar c d (i + 1) ∗ infl (F := F) c d 1 0 i ∗ todo c d i 2)
  | 2 => iprop(done (F := F) c d (i + 1) 0 ∗ done (F := F) c d (i + 1) 1 ∗ nextBar c d (i + 1) ∗ infl (F := F) c d 2 0 i)
  | _ => idle c d (i + 1)

/-- A hop of one piece, ready to start, with its destination. -/
def go (c : Dev nD) (d : Bool) (s : Fin 3) (j : Fin 2) (r : ℕ) : sProp 𝕄 :=
  iprop(ready (F := F) c d s j r ∗ pcX (F := F) (tgt d c) d (s.val + 1) j r (slot_ok' s j r))

/-! ## Pieces and slots -/

theorem ln_lt {r : ℕ} (hr : r < 3) : ln 0 r = 256 := if_pos ⟨rfl, hr⟩

theorem rows_all {α : Type} {R : ℕ} (X : (Sh2 R).Idx → α) {h} : rows 0 R h X = X := by
  funext y
  conv_rhs => rw [eq_ix2 y]
  exact congrArg X (congrArg (fun a => ix2 a (y 1)) (Fin.ext (Nat.zero_add _)))

theorem pcX_slot (c : Dev nD) (d : Bool) (s r : ℕ) (hr : r < 3) {h h'} : pcX (F := F) c d s 0 r h ⊢ slotX (F := F) c d s h' := by
  unfold pcX slotX
  generalize he : ln 0 r = R at *
  obtain rfl : R = 256 := he.symm.trans (ln_lt hr)
  exact .rfl
theorem slot_pcX (c : Dev nD) (d : Bool) (s r : ℕ) (hr : r < 3) {h h'} : slotX (F := F) c d s h' ⊢ pcX (F := F) c d s 0 r h := by
  unfold pcX slotX
  generalize he : ln 0 r = R at *
  obtain rfl : R = 256 := he.symm.trans (ln_lt hr)
  exact .rfl
theorem pc_pcX (c : Dev nD) (d : Bool) (s : ℕ) (j : Fin 2) (r : ℕ) {h} : pc m c d s j r h ⊢ pcX (F := F) c d s j r h := by
  unfold pc pcX; iintro H; iexists _; iexact H
/-- A slot is its two pieces of the last tile, -/
theorem slot_split (c : Dev nD) (d : Bool) (s : ℕ) {h h₀ h₁} (X : Blk F 256) :
    pcO c d s 0 256 h X ⊢ iprop(pcO c d s (128 * (0 : Fin 2).val) (ln 0 3) h₀ (rows (128 * (0 : Fin 2).val) (ln 0 3) h₀.2 X)
      ∗ pcO c d s (128 * (1 : Fin 2).val) (ln 1 0) h₁ (rows (128 * (1 : Fin 2).val) (ln 1 0) h₁.2 X)) := by
  unfold pcO
  exact owns_win_split (commB d) c (s := s) (a := 0) (R₁ := 128) (R₂ := 128) (by decide) X
theorem slot_splitX (c : Dev nD) (d : Bool) (s : ℕ) {h h₀ h₁} :
    slotX (F := F) c d s h ⊢ iprop(pcX (F := F) c d s 0 3 h₀ ∗ pcX (F := F) c d s 1 0 h₁) := by
  unfold slotX pcX
  iintro ⟨%X, H⟩
  ihave H' := (slot_split c d s (h₀ := h₀) (h₁ := h₁) X) $$ H
  icases H' with ⟨H0, H1⟩
  isplitl [H0]
  · iexists _; iexact H0
  iexists _; iexact H1
theorem slot_joinX (c : Dev nD) (d : Bool) (s : ℕ) {h h₀ h₁} :
    iprop(pcX (F := F) c d s 0 3 h₀ ∗ pcX (F := F) c d s 1 0 h₁) ⊢ slotX (F := F) c d s h := by
  unfold slotX pcX
  iintro ⟨⟨%X, H0⟩, ⟨%Y, H1⟩⟩
  iexists (cat (by decide : 128 + 128 = 256) X Y)
  unfold pcO
  iapply (owns_win_join (commB d) c (s := s) (a := 0) (R₁ := 128) (R₂ := 128) (h₁ := inbOf h₀) (h₂ := inbOf h₁) _ X Y)
  isplitl [H0]; · iexact H0
  iexact H1

theorem todo_go (c : Dev nD) (d : Bool) (s : Fin 3) (r : ℕ) (hr : r < 3) : todo (F := F) c d r s ⊢ go c d s 0 r := by
  unfold todo go ready lent
  iintro ⟨Ht, Ha, Hs, Hr⟩
  isplitl [Ht Ha Hr]
  · isplitl [Ht]; · iexact Ht
    isplitl [Ha]; · iexact Ha
    iexact Hr
  iapply (slot_pcX (tgt d c) d (s.val + 1) r hr); iexact Hs

theorem landed_done (c : Dev nD) (d : Bool) (s : Fin 3) (r : ℕ) (hr : r < 3) :
    landed m c d s 0 r ⊢ iprop(pc m c d (s.val + 1) 0 r (slot_ok' s 0 r) ∗ done (F := F) c d (r + 1) s
      ∗ (if s = 0 ∧ (0 : Fin 2) = 0 then nextBar c d (r + 1) else iprop(emp))) := by
  unfold landed done nextBar
  iintro ⟨Hp, Hx, Ha, Hb⟩
  isplitl [Hp]; · iexact Hp
  isplitl [Hx Ha]
  · isplitl [Ha]; · iexact Ha
    iapply (pcX_slot c d s.val r hr); iexact Hx
  iexact Hb

/-- What an idle direction lends for a tile, and keeps. -/
theorem idle_lend (c : Dev nD) (d : Bool) (i : ℕ) :
    idle (F := F) c d i ⊢ iprop(barPay (F := F) (src d c) d i ∗ nextBar c d i ∗ slotX (F := F) c d 0 (by decide)
      ∗ at2 c d 0 0 i ∗ at2 c d 1 0 i ∗ at2 c d 2 0 i) := by
  unfold idle done barPay lent at2 pos
  rw [tgt_src]
  iintro ⟨⟨⟨Ha0, Hb0, #Hr0⟩, Hs0⟩, ⟨⟨Ha1, Hb1, #Hr1⟩, Hs1⟩, ⟨⟨Ha2, Hb2, #Hr2⟩, Hs2⟩, Hs3, Hn⟩
  isplitl [Hs1 Hs2 Hs3]
  · isplitl [Hs1]
    · isplitl [Hs1]; · iexact Hs1
      iexact Hr0
    isplitl [Hs2]
    · isplitl [Hs2]; · iexact Hs2
      iexact Hr1
    isplitl [Hs3]; · iexact Hs3
    iexact Hr2
  isplitl [Hn]; · iexact Hn
  isplitl [Hs0]; · iexact Hs0
  isplitl [Ha0 Hb0]
  · isplitl [Ha0]; · iexact Ha0
    isplitl [Hb0]; · iexact Hb0
    iexact Hr0
  isplitl [Ha1 Hb1]
  · isplitl [Ha1]; · iexact Ha1
    isplitl [Hb1]; · iexact Hb1
    iexact Hr1
  isplitl [Ha2]; · iexact Ha2
  isplitl [Hb2]; · iexact Hb2
  iexact Hr2

/-! ## The accumulator -/

theorem acc_split (c : Dev nD) (p : ℕ) {h h₁ h₂} (X : Blk F 512) :
    accO c p 0 512 h X ⊢ iprop(accO c p 0 256 h₁ (rows 0 256 (by decide) X) ∗ accO c p 256 256 h₂ (rows 256 256 (by decide) X)) := by
  unfold accO
  exact owns_win_split accB c (s := p) (a := 0) (R₁ := 256) (R₂ := 256) (by decide) X
/-- After a stage the two halves are the tile with one arrival more. -/
theorem acc_join (c : Dev nD) (p r s : ℕ) {h h₁ h₂ h₃ h₄} :
    iprop(accO c p 0 256 h₁ (add (rows 0 256 (by decide) (red m c r s)) (rows (128 * (0 : Fin 2).val) 256 h₃ (val m c true r (s + 1))))
        ∗ accO c p 256 256 h₂ (add (rows 256 256 (by decide) (red m c r s)) (rows (128 * (0 : Fin 2).val) 256 h₄ (val m c false r (s + 1)))))
      ⊢ accO c p 0 512 h (red m c r (s + 1)) := by
  show iprop(accO c p 0 256 h₁ (add _ (rows 0 256 h₃ _)) ∗ accO c p 256 256 h₂ (add _ (rows 0 256 h₄ _))) ⊢ _
  rw [rows_all, rows_all]
  unfold accO
  exact owns_win_join accB c (s := p) (a := 0) (R₁ := 256) (R₂ := 256) (by decide) _ _

/-! ## The result, and the tokens to come -/

/-- The result with its first `n` tiles finished. -/
def tileO (c : Dev nD) (n r : ℕ) (h : 512 * r + 512 ≤ 2048) : sProp 𝕄 :=
  if r < n then outO c (512 * r) h (red m c r 3)
  else iprop(dutyTok ER (cell c kOut) r false ∗ ∃ Y, outO (F := F) c (512 * r) h Y)
def outs (c : Dev nD) (n : ℕ) : sProp 𝕄 :=
  iprop(pos c kOut n ∗ tileO m c n 0 (by decide) ∗ tileO m c n 1 (by decide) ∗ tileO m c n 2 (by decide) ∗ tileO m c n 3 (by decide))

theorem outs_next (c : Dev nD) (n : ℕ) (hn : n < 4) : outs m c n ⊢ iprop(pos c kOut n ∗ (dutyTok ER (cell c kOut) n false ∗ ∃ Y, outO (F := F) c (512 * n) (by omega) Y)
    ∗ (pos c kOut (n + 1) ∗ outO c (512 * n) (by omega) (red m c n 3) -∗ outs m c (n + 1))) := by
  unfold outs tileO
  match n, hn with
  | 0, _ =>
    simp only [Nat.reduceLT, ↓reduceIte, Nat.reduceAdd]
    iintro ⟨Hp, H0, H1, H2, H3⟩
    isplitl [Hp]; · iexact Hp
    isplitl [H0]; · iexact H0
    iintro ⟨Hp, H0⟩
    isplitl [Hp]; · iexact Hp
    isplitl [H0]; · iexact H0
    isplitl [H1]; · iexact H1
    isplitl [H2]; · iexact H2
    iexact H3
  | 1, _ =>
    simp only [Nat.reduceLT, ↓reduceIte, Nat.reduceAdd]
    iintro ⟨Hp, H0, H1, H2, H3⟩
    isplitl [Hp]; · iexact Hp
    isplitl [H1]; · iexact H1
    iintro ⟨Hp, H1⟩
    isplitl [Hp]; · iexact Hp
    isplitl [H0]; · iexact H0
    isplitl [H1]; · iexact H1
    isplitl [H2]; · iexact H2
    iexact H3
  | 2, _ =>
    simp only [Nat.reduceLT, ↓reduceIte, Nat.reduceAdd]
    iintro ⟨Hp, H0, H1, H2, H3⟩
    isplitl [Hp]; · iexact Hp
    isplitl [H2]; · iexact H2
    iintro ⟨Hp, H2⟩
    isplitl [Hp]; · iexact Hp
    isplitl [H0]; · iexact H0
    isplitl [H1]; · iexact H1
    isplitl [H2]; · iexact H2
    iexact H3
  | 3, _ =>
    simp only [Nat.reduceLT, ↓reduceIte, Nat.reduceAdd]
    iintro ⟨Hp, H0, H1, H2, H3⟩
    isplitl [Hp]; · iexact Hp
    isplitl [H3]; · iexact H3
    iintro ⟨Hp, H3⟩
    isplitl [Hp]; · iexact Hp
    isplitl [H0]; · iexact H0
    isplitl [H1]; · iexact H1
    isplitl [H2]; · iexact H2
    iexact H3

/-- The tokens of a tile: its two signals, its barrier wait, its six hops; -/
def toks (c : Dev nD) (i : ℕ) : sProp 𝕄 :=
  iprop((dutyTok ER (cell (src true c) kBar) i true ∗ dutyTok ER (cell (src false c) kBar) i false ∗ cred (tallyAt (cell c kBar) i 2))
    ∗ (tok (F := F) c true 0 0 i ∗ tok (F := F) c true 1 0 i ∗ tok (F := F) c true 2 0 i)
    ∗ tok (F := F) c false 0 0 i ∗ tok (F := F) c false 1 0 i ∗ tok (F := F) c false 2 0 i)
/-- of one direction of the last tile's second pieces. -/
def toksL (c : Dev nD) (d : Bool) : sProp 𝕄 :=
  iprop((tok (F := F) c d 0 1 0 ∗ at2 (F := F) c d 0 1 0) ∗ (tok (F := F) c d 1 1 0 ∗ at2 (F := F) c d 1 1 0) ∗ tok (F := F) c d 2 1 0 ∗ at2 (F := F) c d 2 1 0)
/-- The tokens from tile `i` on. -/
def fut (c : Dev nD) : ℕ → sProp 𝕄
  | 0 => iprop(toks (F := F) c 0 ∗ toks (F := F) c 1 ∗ toks (F := F) c 2 ∗ toks (F := F) c 3 ∗ toksL (F := F) c true ∗ toksL (F := F) c false)
  | 1 => iprop(toks (F := F) c 1 ∗ toks (F := F) c 2 ∗ toks (F := F) c 3 ∗ toksL (F := F) c true ∗ toksL (F := F) c false)
  | 2 => iprop(toks (F := F) c 2 ∗ toks (F := F) c 3 ∗ toksL (F := F) c true ∗ toksL (F := F) c false)
  | 3 => iprop(toks (F := F) c 3 ∗ toksL (F := F) c true ∗ toksL (F := F) c false)
  | _ => iprop(emp)
theorem fut_next (c : Dev nD) (i : ℕ) (hi : i < 3) : fut (F := F) c i ⊢ iprop(toks (F := F) c i ∗ fut (F := F) c (i + 1)) := by
  match i, hi with
  | 0, _ => exact .rfl
  | 1, _ => exact .rfl
  | 2, _ => exact .rfl

/-! ## Levels -/

theorem above_hops : ∀ c : Dev nD, ∀ r < 3, ∀ p < 3, Above (8 * r + 2 + p) (hops c r p ++ tail c (r + 1)) := by decide +kernel
theorem above_bar : ∀ c : Dev nD, ∀ r < 3, Above (8 * r + 1) (hopDue c r true 0 0 :: hopDue c r false 0 0 :: (hops c r 0 ++ tail c (r + 1))) := by
  decide +kernel
theorem above_barL : ∀ c : Dev nD, Above (8 * 3 + 1) (hopPair c 0 ++ (hopPair c 1 ++ hopPair c 2)) := by decide +kernel
theorem above_zero : ∀ c : Dev nD, ∀ r < 4, Above 0 (tail c r) := by decide +kernel

end Cert.K

end
-- ==== Proof.Body.lean ====
/-
The body at the grid points where it only computes, and where a stage of the previous tile's reduction runs.
-/
module

public import proofs.«01_k».proof.Proof.State

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

theorem no1 (t : Fin cfg0.N) (h : t.val % 16 ≠ 0) : ¬ k0_cond1 (grid0.coords t) = 1#1 := fun e => h (by
  rw [cond1_iff] at e; exact (coords_1 t).symm.trans e)
theorem yes1 (t : Fin cfg0.N) (h : t.val % 16 = 0) : k0_cond1 (grid0.coords t) = 1#1 := (cond1_iff _).mpr ((coords_1 t).trans h)
theorem no2 (t : Fin cfg0.N) (h : t.val % 16 = 0) : ¬ k0_cond2 (grid0.coords t) = 1#1 := fun e => by
  rw [cond2_iff] at e; have := coords_1 t; change ((grid0.coords t) 1).val = _ at this; omega
theorem yes2 (t : Fin cfg0.N) (h : t.val % 16 ≠ 0) : k0_cond2 (grid0.coords t) = 1#1 := (cond2_iff _).mpr (by
  have := coords_1 t; change ((grid0.coords t) 1).val = _ at this; omega)
theorem no3 (t : Fin cfg0.N) (h : ¬ (0 < t.val / 16 ∧ t.val % 16 = 4)) : ¬ k0_cond3 (grid0.coords t) = 1#1 := fun e => h (by
  rw [cond3_iff] at e; rw [← coords_0 t, ← coords_1 t]; exact e)
theorem no4 (t : Fin cfg0.N) (h : ¬ (0 < t.val / 16 ∧ t.val % 16 = 9)) : ¬ k0_cond4 (grid0.coords t) = 1#1 := fun e => h (by
  rw [cond4_iff] at e; rw [← coords_0 t, ← coords_1 t]; exact e)
theorem no5 (t : Fin cfg0.N) (h : ¬ (0 < t.val / 16 ∧ t.val % 16 = 14)) : ¬ k0_cond5 (grid0.coords t) = 1#1 := fun e => h (by
  rw [cond5_iff] at e; rw [← coords_0 t, ← coords_1 t]; exact e)
theorem no6 (t : Fin cfg0.N) (h : t.val % 16 ≠ 15) : ¬ k0_cond6 (grid0.coords t) = 1#1 := fun e => h (by
  rw [cond6_iff] at e; rw [← coords_1 t]; exact e)

/-- A point that only computes: it adds to the tile's partial product. -/
theorem body_plain (c : Dev nD) (t : Fin cfg0.N) (h0 : t.val % 16 ≠ 0) (h3 : ¬ (0 < t.val / 16 ∧ t.val % 16 = 4))
    (h4 : ¬ (0 < t.val / 16 ∧ t.val % 16 = 9)) (h5 : ¬ (0 < t.val / 16 ∧ t.val % 16 = 14)) (h6 : t.val % 16 ≠ 15) (X : Blk F 512) {hp} :
    iprop(staged m c t ∗ accO c (t.val / 16 % 2) 0 512 hp X)
      ⊢ wp frame (wpE (defs₀ (F := F)) 𝒱₀ (c : Thread nD τ) none) Set.univ (bodyAt0 t)
          (fun _ => iprop(staged m c t ∗ accO c (t.val / 16 % 2) 0 512 hp (add X (mlp m c t)))) := by
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, ↓dif_neg (no1 t h0), ↓dif_pos (yes2 t h0), ↓dif_neg (no3 t h3),
    ↓dif_neg (no4 t h4), ↓dif_neg (no5 t h5), ↓dif_neg (no6 t h6)]
  iintro ⟨Hs, Ha⟩
  iapply (wp_mlp m c t _ X ((off2_eq _).trans (by rw [show ((grid0.coords t) 0).val = _ from coords_0 t]))) $$ [Hs Ha]
  · isplitl [Hs]; · iexact Hs
    iexact Ha
  iintro ⟨Hs, Ha⟩
  rw [wp_ret]; imodintro
  isplitl [Hs]; · iexact Hs
  iexact Ha

theorem yes3 (t : Fin cfg0.N) (h : 0 < t.val / 16 ∧ t.val % 16 = 4) : k0_cond3 (grid0.coords t) = 1#1 := (cond3_iff _).mpr (by
  rw [← coords_0 t, ← coords_1 t] at h; exact h)
theorem yes4 (t : Fin cfg0.N) (h : 0 < t.val / 16 ∧ t.val % 16 = 9) : k0_cond4 (grid0.coords t) = 1#1 := (cond4_iff _).mpr (by
  rw [← coords_0 t, ← coords_1 t] at h; exact h)
theorem yes5 (t : Fin cfg0.N) (h : 0 < t.val / 16 ∧ t.val % 16 = 14) : k0_cond5 (grid0.coords t) = 1#1 := (cond5_iff _).mpr (by
  rw [← coords_0 t, ← coords_1 t] at h; exact h)

/-- The first stage of the previous tile's reduction, and the second hop. -/
theorem body_stage0 (c : Dev nD) (t : Fin cfg0.N) (r : ℕ) (hr : r < 3) (hi : t.val / 16 = r + 1) (hk : t.val % 16 = 4) (X : Blk F 512) {hp hp'} :
    iprop(Recs m ∗ levAts L lv ∗ due c (hops c r 0 ++ tail c (r + 1)) ∗ (fl (F := F) c true r 0 ∗ fl (F := F) c false r 0)
        ∗ accO c (r % 2) 0 512 hp' (red m c r 0) ∗ staged m c t ∗ accO c (t.val / 16 % 2) 0 512 hp X)
      ⊢ wp frame (wpE (defs₀ (F := F)) 𝒱₀ (c : Thread nD τ) none) Set.univ (bodyAt0 t)
          (fun _ => iprop(due c (hops c r 1 ++ tail c (r + 1)) ∗ (fl (F := F) c true r 1 ∗ fl (F := F) c false r 1)
            ∗ accO c (r % 2) 0 512 hp' (red m c r 1) ∗ staged m c t ∗ accO c (t.val / 16 % 2) 0 512 hp (add X (mlp m c t)))) := by
  have hpos : 0 < ((grid0.coords t) 0).val := by rw [show ((grid0.coords t) 0).val = _ from coords_0 t, hi]; exact Nat.succ_pos r
  have hc : ((grid0.coords t) 0).val - 1 = r := by rw [show ((grid0.coords t) 0).val = _ from coords_0 t, hi]; rfl
  simp only [fl]
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, ↓dif_neg (no1 t (by omega)), ↓dif_pos (yes2 t (by omega)),
    ↓dif_pos (yes3 t (by omega)), ↓dif_neg (no4 t (by omega)), ↓dif_neg (no5 t (by omega)), ↓dif_neg (no6 t (by omega))]
  simp only [k0_part1_eq_skeleton, k0_part2_eq_skeleton]; unfold k0_part1_skel k0_part2_skel
  simp only [Prog.lift, Prog.bind_op, Prog.bind_ret, Prog.pure_eq_ret]
  iintro ⟨#HR, #Hlev, Ho, ⟨Hft, Hff⟩, Hold, Hs, Ha⟩
  iapply (wp_mlp m c t _ X ((off2_eq _).trans (by rw [show ((grid0.coords t) 0).val = _ from coords_0 t]))) $$ [Hs Ha]
  · isplitl [Hs]; · iexact Hs
    iexact Ha
  iintro ⟨Hs, Ha⟩
  icases Hft with ⟨Hit, H1t, H2t⟩
  icases Hff with ⟨Hif, H1f, H2f⟩
  ihave Hold := (acc_split c (r % 2) (h₁ := ⟨hp'.1, by decide⟩) (h₂ := ⟨hp'.1, by decide⟩) (red m c r 0)) $$ Hold
  icases Hold with ⟨Hu, Hl⟩
  iapply (wp_stage m c 0 0 r (hops c r 0 ++ tail c (r + 1)) (by show r < 4; omega) (above_hops c r hr 0 (by decide)) (ln_lt hr) (r % 2) 0 256
    (hp := ⟨hp'.1, by decide⟩) (hp' := ⟨hp'.1, by decide⟩)
    (rows 0 256 (by decide) (red m c r 0)) (rows 256 256 (by decide) (red m c r 0)) rfl rfl rfl rfl
    ((off3_eq _ hpos).trans (by rw [hc])) ((off4_eq _ hpos).trans (by rw [hc])) rfl rfl k0_pay3 k0_pay4 (pay_add _ _ _) (pay_add _ _ _)) $$ [Ho Hit Hif Hu Hl]
  · isplitr; · iexact HR
    isplitr; · iexact Hlev
    isplitl [Ho]; · iexact Ho
    isplitl [Hit]; · iexact Hit
    isplitl [Hif]; · iexact Hif
    isplitl [Hu]; · iexact Hu
    iexact Hl
  iintro ⟨Hlt, Hlf, Ho, Hu, Hl⟩
  ihave Hold := (acc_join m c (r % 2) r 0 (h := hp')) $$ [Hu Hl]
  · isplitl [Hu]; · iexact Hu
    iexact Hl
  ihave Hlt := (landed_done m c true 0 r hr) $$ Hlt
  icases Hlt with ⟨Hpt, Hdt, Hnt⟩
  ihave Hnt := (Entails.of_eq (if_pos ⟨rfl, rfl⟩)) $$ Hnt
  ihave Hlf := (landed_done m c false 0 r hr) $$ Hlf
  icases Hlf with ⟨Hpf, Hdf, Hnf⟩
  ihave Hnf := (Entails.of_eq (if_pos ⟨rfl, rfl⟩)) $$ Hnf
  ihave H1t := (todo_go c true 1 r hr) $$ H1t
  ihave H1f := (todo_go c false 1 r hr) $$ H1f
  unfold go
  icases H1t with ⟨Hgt, Hxt⟩
  icases H1f with ⟨Hgf, Hxf⟩
  iapply (wp_hops m c 1 0 r (hops c r 1 ++ tail c (r + 1)) (by show r < 4; omega) (ln_lt hr) (dev1_eq c _) (dev2_eq c _)) $$ [Ho Hgt Hxt Hpt Hgf Hxf Hpf]
  · isplitr; · iexact HR
    isplitl [Ho]; · iexact Ho
    isplitl [Hgt Hxt Hpt]
    · isplitl [Hgt]; · iexact Hgt
      isplitl [Hpt]; · iexact Hpt
      iexact Hxt
    isplitl [Hgf Hxf Hpf]
    · isplitl [Hgf]; · iexact Hgf
      isplitl [Hpf]; · iexact Hpf
      iexact Hxf
    iempintro
  iintro ⟨Hit, Hif, Ho⟩
  rw [wp_ret]; imodintro
  isplitl [Ho]; · iexact Ho
  isplitl [Hdt Hnt Hit H2t Hdf Hnf Hif H2f]
  · isplitl [Hdt Hnt Hit H2t]
    · isplitl [Hdt]; · iexact Hdt
      isplitl [Hnt]; · iexact Hnt
      isplitl [Hit]; · iexact Hit
      iexact H2t
    isplitl [Hdf]; · iexact Hdf
    isplitl [Hnf]; · iexact Hnf
    isplitl [Hif]; · iexact Hif
    iexact H2f
  isplitl [Hold]; · iexact Hold
  isplitl [Hs]; · iexact Hs
  iexact Ha

/-- The second stage, and the third hop. -/
theorem body_stage1 (c : Dev nD) (t : Fin cfg0.N) (r : ℕ) (hr : r < 3) (hi : t.val / 16 = r + 1) (hk : t.val % 16 = 9) (X : Blk F 512) {hp hp'} :
    iprop(Recs m ∗ levAts L lv ∗ due c (hops c r 1 ++ tail c (r + 1)) ∗ (fl (F := F) c true r 1 ∗ fl (F := F) c false r 1)
        ∗ accO c (r % 2) 0 512 hp' (red m c r 1) ∗ staged m c t ∗ accO c (t.val / 16 % 2) 0 512 hp X)
      ⊢ wp frame (wpE (defs₀ (F := F)) 𝒱₀ (c : Thread nD τ) none) Set.univ (bodyAt0 t)
          (fun _ => iprop(due c (hops c r 2 ++ tail c (r + 1)) ∗ (fl (F := F) c true r 2 ∗ fl (F := F) c false r 2)
            ∗ accO c (r % 2) 0 512 hp' (red m c r 2) ∗ staged m c t ∗ accO c (t.val / 16 % 2) 0 512 hp (add X (mlp m c t)))) := by
  have hpos : 0 < ((grid0.coords t) 0).val := by rw [show ((grid0.coords t) 0).val = _ from coords_0 t, hi]; exact Nat.succ_pos r
  have hc : ((grid0.coords t) 0).val - 1 = r := by rw [show ((grid0.coords t) 0).val = _ from coords_0 t, hi]; rfl
  simp only [fl]
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, ↓dif_neg (no1 t (by omega)), ↓dif_pos (yes2 t (by omega)),
    ↓dif_neg (no3 t (by omega)), ↓dif_pos (yes4 t (by omega)), ↓dif_neg (no5 t (by omega)), ↓dif_neg (no6 t (by omega))]
  simp only [k0_part3_eq_skeleton, k0_part4_eq_skeleton]; unfold k0_part3_skel k0_part4_skel
  simp only [Prog.lift, Prog.bind_op, Prog.bind_ret, Prog.pure_eq_ret]
  iintro ⟨#HR, #Hlev, Ho, ⟨Hft, Hff⟩, Hold, Hs, Ha⟩
  iapply (wp_mlp m c t _ X ((off2_eq _).trans (by rw [show ((grid0.coords t) 0).val = _ from coords_0 t]))) $$ [Hs Ha]
  · isplitl [Hs]; · iexact Hs
    iexact Ha
  iintro ⟨Hs, Ha⟩
  icases Hft with ⟨H0t, Hbt, Hit, H2t⟩
  icases Hff with ⟨H0f, Hbf, Hif, H2f⟩
  ihave Hold := (acc_split c (r % 2) (h₁ := ⟨hp'.1, by decide⟩) (h₂ := ⟨hp'.1, by decide⟩) (red m c r 1)) $$ Hold
  icases Hold with ⟨Hu, Hl⟩
  iapply (wp_stage m c 1 0 r (hops c r 1 ++ tail c (r + 1)) (by show r < 4; omega) (above_hops c r hr 1 (by decide)) (ln_lt hr) (r % 2) 0 256
    (hp := ⟨hp'.1, by decide⟩) (hp' := ⟨hp'.1, by decide⟩)
    (rows 0 256 (by decide) (red m c r 1)) (rows 256 256 (by decide) (red m c r 1)) rfl rfl rfl rfl
    ((off5_eq _ hpos).trans (by rw [hc])) ((off6_eq _ hpos).trans (by rw [hc])) rfl rfl k0_pay5 k0_pay6 (pay_add _ _ _) (pay_add _ _ _)) $$ [Ho Hit Hif Hu Hl]
  · isplitr; · iexact HR
    isplitr; · iexact Hlev
    isplitl [Ho]; · iexact Ho
    isplitl [Hit]; · iexact Hit
    isplitl [Hif]; · iexact Hif
    isplitl [Hu]; · iexact Hu
    iexact Hl
  iintro ⟨Hlt, Hlf, Ho, Hu, Hl⟩
  ihave Hold := (acc_join m c (r % 2) r 1 (h := hp')) $$ [Hu Hl]
  · isplitl [Hu]; · iexact Hu
    iexact Hl
  ihave Hlt := (landed_done m c true 1 r hr) $$ Hlt
  icases Hlt with ⟨Hpt, Hdt, -⟩
  ihave Hlf := (landed_done m c false 1 r hr) $$ Hlf
  icases Hlf with ⟨Hpf, Hdf, -⟩
  ihave H2t := (todo_go c true 2 r hr) $$ H2t
  ihave H2f := (todo_go c false 2 r hr) $$ H2f
  unfold go
  icases H2t with ⟨Hgt, Hxt⟩
  icases H2f with ⟨Hgf, Hxf⟩
  iapply (wp_hops m c 2 0 r (hops c r 2 ++ tail c (r + 1)) (by show r < 4; omega) (ln_lt hr) (dev3_eq c _) (dev4_eq c _)) $$ [Ho Hgt Hxt Hpt Hgf Hxf Hpf]
  · isplitr; · iexact HR
    isplitl [Ho]; · iexact Ho
    isplitl [Hgt Hxt Hpt]
    · isplitl [Hgt]; · iexact Hgt
      isplitl [Hpt]; · iexact Hpt
      iexact Hxt
    isplitl [Hgf Hxf Hpf]
    · isplitl [Hgf]; · iexact Hgf
      isplitl [Hpf]; · iexact Hpf
      iexact Hxf
    iempintro
  iintro ⟨Hit, Hif, Ho⟩
  rw [wp_ret]; imodintro
  isplitl [Ho]; · iexact Ho
  isplitl [H0t Hbt Hdt Hit H0f Hbf Hdf Hif]
  · isplitl [H0t Hbt Hdt Hit]
    · isplitl [H0t]; · iexact H0t
      isplitl [Hdt]; · iexact Hdt
      isplitl [Hbt]; · iexact Hbt
      iexact Hit
    isplitl [H0f]; · iexact H0f
    isplitl [Hdf]; · iexact Hdf
    isplitl [Hbf]; · iexact Hbf
    iexact Hif
  isplitl [Hold]; · iexact Hold
  isplitl [Hs]; · iexact Hs
  iexact Ha

/-! ## The last stage, and the result's copy -/

theorem win_eq {sp : Space} {A H : ℕ} (b : Memref sig .tc sp (Sh3 A H) .bf16) {off : Fin 3 → ℕ} {s a R : ℕ} (ho : off = ![s, a, 0]) {inb h} {hs : ∀ x, _} :
    (b.slice (Rect.unit (s := Sh3 A H) off (Sh3 1 R).size inb) hs).squeeze (Sh2 R) (sqz R) = win b s a R h := by subst ho; rfl
theorem outM_eq {off : Fin 2 → ℕ} {o : ℕ} (ho : off = ![o, 0]) {inb h} {hs : ∀ x, _} :
    outB.slice (Rect.unit (s := S2048x2048) off S512x2048.size inb) hs = outM o h := by subst ho; rfl

/-- The finished tile copied into the result, and waited for. -/
theorem wp_copyout {α : Type} (c : Dev nD) (r : ℕ) (l : List Due) (hr : r < 4) (hl : Above 0 l) {defs : Defs nD τ sig (Elt F) Λ₀}
    {srcM : Memref sig .tc .vmem (Sh2 512) .bf16} {dstM : Memref sig .tc .hbm (Sh2 512) .bf16} {h : r % 2 < 2 ∧ 0 + 512 ≤ 512} {h' : 512 * r + 512 ≤ 2048}
    (hs : srcM = win accB (r % 2) 0 512 (inbOf h)) (hd : dstM = outM (512 * r) h')
    {sR : SemLoc sig} (hsR : sR = semOf kOut) {sm : DmaSem sig} (hsm : SemLoc.dma sm = semOf kOut)
    {hsrc : srcM.view.WordExact} {hdst : dstM.view.WordExact} {hsem : DmaTarget.Typed (nD := nD) (τ := τ) (p := Proc.tc) .vmem sR (.here dstM)}
    {sp' : Space} {s' : Shape} {e' : EltTy} {srcM' : Memref sig .tc sp' s' e'} {hsrc' hdst'}
    {k : PUnit → Prog (TpuEff nD τ sig (Elt F) Λ₀ .tc) α} {Q : α → sProp 𝕄} :
    iprop(Recs m ∗ levAts L lv ∗ due c l ∗ outs m c r ∗ accO c (r % 2) 0 512 h (red m c r 3))
      ⊢ iprop((due c l ∗ outs m c (r + 1) ∗ accO c (r % 2) 0 512 h (red m c r 3)
            -∗ wp frame (wpE defs 𝒱₀ (c : Thread nD τ) none) Set.univ (k ⟨⟩) Q)
          -∗ wp frame (wpE defs 𝒱₀ (c : Thread nD τ) none) Set.univ
              (.op (.enqueueDma srcM (.here dstM) sR hsrc hdst hsem) fun _ => .op (.waitDma2 sm srcM' dstM hsrc' hdst') k) Q) := by
  subst hd
  iintro ⟨#HR, #Hlev, Ho, Hout, Ha⟩ Hk
  ihave Hout := (outs_next m c r hr) $$ Hout
  icases Hout with ⟨Hp, ⟨Ht, Hd⟩, Hback⟩
  ihave #Hr := (show pos c kOut r ⊢ reached ER (cell c kOut) r from by unfold pos; iintro ⟨-, H⟩; iexact H) $$ Hp
  iapply (wp_out m c r hr hs rfl hsR) $$ [Ht Ha Hd]
  · isplitr; · iexact HR
    isplitl [Ht]; · iexact Ht
    isplitr; · iexact Hr
    isplitl [Ha]; · iexact Ha
    iexact Hd
  iintro Hc
  iapply (wp_waitK m c kOut r r l (by simp) hr hr (b := 0) (le_refl _) hl hsm rfl) $$ [Hc Hp Ho]
  · isplitr; · iexact HR
    isplitr; · iexact Hlev
    isplitl [Hc]; · iexact Hc
    isplitl [Hp]; · iexact Hp
    iexact Ho
  iintro ⟨Hpay, Hp, Ho⟩
  ihave Hpay := (show payK m c kOut r false ⊢ iprop(outO c (512 * r) h' (red m c r 3) ∗ accO c (r % 2) 0 512 h (red m c r 3)) from by
    show outPay m c r ⊢ _
    unfold outPay; rw [dif_pos hr]) $$ Hpay
  icases Hpay with ⟨Hd, Ha⟩
  iapply Hk
  isplitl [Ho]; · iexact Ho
  isplitl [Hback Hp Hd]
  · iapply Hback
    isplitl [Hp]; · iexact Hp
    iexact Hd
  iexact Ha

/-- What arrived last, as the device's own slot again. -/
theorem last_slot (c : Dev nD) (d : Bool) (r : ℕ) (hr : r < 3) :
    pc m c d ((2 : Fin 3).val + 1) 0 r (slot_ok' 2 0 r) ⊢ slotX (F := F) c d 3 (by decide) :=
  (pc_pcX m c d 3 0 r).trans (pcX_slot c d 3 r hr)

/-- The last stage of the previous tile's reduction, and its copy into the result. -/
theorem body_stage2 (c : Dev nD) (t : Fin cfg0.N) (r : ℕ) (hr : r < 3) (hi : t.val / 16 = r + 1) (hk : t.val % 16 = 14) (X : Blk F 512) {hp hp'} :
    iprop(Recs m ∗ levAts L lv ∗ due c (hops c r 2 ++ tail c (r + 1)) ∗ (fl (F := F) c true r 2 ∗ fl (F := F) c false r 2)
        ∗ accO c (r % 2) 0 512 hp' (red m c r 2) ∗ outs m c r ∗ staged m c t ∗ accO c (t.val / 16 % 2) 0 512 hp X)
      ⊢ wp frame (wpE (defs₀ (F := F)) 𝒱₀ (c : Thread nD τ) none) Set.univ (bodyAt0 t)
          (fun _ => iprop(due c (hops c r 3 ++ tail c (r + 1)) ∗ (fl (F := F) c true r 3 ∗ fl (F := F) c false r 3)
            ∗ accO c (r % 2) 0 512 hp' (red m c r 3) ∗ outs m c (r + 1) ∗ staged m c t ∗ accO c (t.val / 16 % 2) 0 512 hp (add X (mlp m c t)))) := by
  have hpos : 0 < ((grid0.coords t) 0).val := by rw [show ((grid0.coords t) 0).val = _ from coords_0 t, hi]; exact Nat.succ_pos r
  have hc : ((grid0.coords t) 0).val - 1 = r := by rw [show ((grid0.coords t) 0).val = _ from coords_0 t, hi]; rfl
  simp only [fl, idle]
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, ↓dif_neg (no1 t (by omega)), ↓dif_pos (yes2 t (by omega)),
    ↓dif_neg (no3 t (by omega)), ↓dif_neg (no4 t (by omega)), ↓dif_pos (yes5 t (by omega)), ↓dif_neg (no6 t (by omega))]
  simp only [k0_part5_eq_skeleton, k0_part6_eq_skeleton]; unfold k0_part5_skel k0_part6_skel
  simp only [Prog.lift, Prog.bind_op, Prog.bind_ret, Prog.pure_eq_ret]
  iintro ⟨#HR, #Hlev, Ho, ⟨Hft, Hff⟩, Hold, Hout, Hs, Ha⟩
  iapply (wp_mlp m c t _ X ((off2_eq _).trans (by rw [show ((grid0.coords t) 0).val = _ from coords_0 t]))) $$ [Hs Ha]
  · isplitl [Hs]; · iexact Hs
    iexact Ha
  iintro ⟨Hs, Ha⟩
  icases Hft with ⟨H0t, H1t, Hbt, Hit⟩
  icases Hff with ⟨H0f, H1f, Hbf, Hif⟩
  ihave Hold := (acc_split c (r % 2) (h₁ := ⟨hp'.1, by decide⟩) (h₂ := ⟨hp'.1, by decide⟩) (red m c r 2)) $$ Hold
  icases Hold with ⟨Hu, Hl⟩
  iapply (wp_stage m c 2 0 r (hops c r 2 ++ tail c (r + 1)) (by show r < 4; omega) (above_hops c r hr 2 (by decide)) (ln_lt hr) (r % 2) 0 256
    (hp := ⟨hp'.1, by decide⟩) (hp' := ⟨hp'.1, by decide⟩)
    (rows 0 256 (by decide) (red m c r 2)) (rows 256 256 (by decide) (red m c r 2)) rfl rfl rfl rfl
    ((off7_eq _ hpos).trans (by rw [hc])) ((off8_eq _ hpos).trans (by rw [hc])) rfl rfl k0_pay7 k0_pay8 (pay_add _ _ _) (pay_add _ _ _)) $$ [Ho Hit Hif Hu Hl]
  · isplitr; · iexact HR
    isplitr; · iexact Hlev
    isplitl [Ho]; · iexact Ho
    isplitl [Hit]; · iexact Hit
    isplitl [Hif]; · iexact Hif
    isplitl [Hu]; · iexact Hu
    iexact Hl
  iintro ⟨Hlt, Hlf, Ho, Hu, Hl⟩
  ihave Hold := (acc_join m c (r % 2) r 2 (h := hp')) $$ [Hu Hl]
  · isplitl [Hu]; · iexact Hu
    iexact Hl
  ihave Hlt := (landed_done m c true 2 r hr) $$ Hlt
  icases Hlt with ⟨Hpt, Hdt, -⟩
  ihave Hlf := (landed_done m c false 2 r hr) $$ Hlf
  icases Hlf with ⟨Hpf, Hdf, -⟩
  ihave Hpt := (last_slot m c true r hr) $$ Hpt
  ihave Hpf := (last_slot m c false r hr) $$ Hpf
  iapply (wp_copyout m c r (hops c r 2 ++ tail c (r + 1)) (by omega) (above_zero c (r + 1) (by omega)) (h := hp') (h' := by omega)
    (win_eq accB ((off10_eq _ hpos).trans (by rw [hc]))) (outM_eq ((off9_eq _ hpos).trans (by rw [hc]))) rfl rfl) $$ [Ho Hout Hold]
  · isplitr; · iexact HR
    isplitr; · iexact Hlev
    isplitl [Ho]; · iexact Ho
    isplitl [Hout]; · iexact Hout
    iexact Hold
  iintro ⟨Ho, Hout, Hold⟩
  rw [wp_ret]; imodintro
  isplitl [Ho]; · iexact Ho
  isplitl [H0t H1t Hbt Hdt Hpt H0f H1f Hbf Hdf Hpf]
  · isplitl [H0t H1t Hbt Hdt Hpt]
    · isplitl [H0t]; · iexact H0t
      isplitl [H1t]; · iexact H1t
      isplitl [Hdt]; · iexact Hdt
      isplitl [Hpt]; · iexact Hpt
      iexact Hbt
    isplitl [H0f]; · iexact H0f
    isplitl [H1f]; · iexact H1f
    isplitl [Hdf]; · iexact Hdf
    isplitl [Hpf]; · iexact Hpf
    iexact Hbf
  isplitl [Hold]; · iexact Hold
  isplitl [Hout]; · iexact Hout
  isplitl [Hs]; · iexact Hs
  iexact Ha

/-- The point that begins a tile: the product is stored. -/
theorem body_first (c : Dev nD) (t : Fin cfg0.N) (h0 : t.val % 16 = 0) (X : Blk F 512) {hp} :
    iprop(staged m c t ∗ accO c (t.val / 16 % 2) 0 512 hp X)
      ⊢ wp frame (wpE (defs₀ (F := F)) 𝒱₀ (c : Thread nD τ) none) Set.univ (bodyAt0 t)
          (fun _ => iprop(staged m c t ∗ accO c (t.val / 16 % 2) 0 512 hp (mlp m c t))) := by
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, ↓dif_pos (yes1 t h0), ↓dif_neg (no2 t h0), ↓dif_neg (no3 t (by omega)),
    ↓dif_neg (no4 t (by omega)), ↓dif_neg (no5 t (by omega)), ↓dif_neg (no6 t (by omega))]
  iintro ⟨Hs, Ha⟩
  iapply (wp_mlp0 m c t _ X ((off1_eq _).trans (by rw [show ((grid0.coords t) 0).val = _ from coords_0 t]))) $$ [Hs Ha]
  · isplitl [Hs]; · iexact Hs
    iexact Ha
  iintro ⟨Hs, Ha⟩
  rw [wp_ret]; imodintro
  isplitl [Hs]; · iexact Hs
  iexact Ha

end Cert.K

end
-- ==== Proof.Begin.lean ====
/-
The last point of a tile: the neighbours' slots are exchanged through the barrier, the tile's halves go into the first
slots, and the first hop is started.
-/
module

public import proofs.«01_k».proof.Proof.Body

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- One direction after the barrier: the slots lent to it, its first slot filled, its cells. -/
def side (c : Dev nD) (d : Bool) (i : ℕ) : sProp 𝕄 :=
  iprop(barPay (F := F) c d i ∗ pcO c d 0 0 256 (by decide) (val m c d i 0) ∗ at2 (F := F) c d 0 0 i ∗ at2 (F := F) c d 1 0 i ∗ at2 (F := F) c d 2 0 i)

theorem wp_begin {α : Type} (c : Dev nD) (i p : ℕ) (l : List Due) (hi : i < 4) (hl : Above (8 * i + 1) l) {defs : Defs nD τ sig (Elt F) Λ₀}
    {hp : p < 2 ∧ 0 + 512 ≤ 512} {n n' : Dev nD} (hn : n = src true c) (hn' : n' = src false c)
    {off off' : Fin 3 → ℕ} (ho : off = ![p, 0, 0]) (ho' : off' = ![p, 256, 0])
    {inb₁ inb₂ inb₃ inb₄ inb₅ inb₆} {hl₁ hl₂ hl₃ hl₄ hx hm hx' hm'}
    (pay pay' : Vec F (Sh3 1 256) .bf16 → Vec F (Sh3 1 256) .bf16) (hw : ∀ X, dn (pay (up X)) = X) (hw' : ∀ X, dn (pay' (up X)) = X)
    {k : PUnit → Prog (TpuEff nD τ sig (Elt F) Λ₀ .tc) α} {Q : α → sProp 𝕄} :
    iprop(Recs m ∗ levAts L lv ∗ due c (sigDue c i true :: sigDue c i false :: l) ∗ idle (F := F) c true i ∗ idle (F := F) c false i
        ∗ (dutyTok ER (cell (src true c) kBar) i true ∗ dutyTok ER (cell (src false c) kBar) i false ∗ cred (tallyAt (cell c kBar) i 2))
        ∗ pos c kBar i ∗ accO c p 0 512 hp (partF m c i))
      ⊢ iprop((due c l ∗ pos c kBar (i + 1) ∗ accO c p 0 512 hp (red m c i 0) ∗ side m c true i ∗ side m c false i
            -∗ wp frame (wpE defs 𝒱₀ (c : Thread nD τ) none) Set.univ (k ⟨⟩) Q)
          -∗ wp frame (wpE defs 𝒱₀ (c : Thread nD τ) none) Set.univ
              (.op (.semSignal (n : Thread nD τ) barS 1) fun _ => .op (.semSignal (n' : Thread nD τ) barS 1) fun _ => .op (.semWait barS 2) fun _ =>
               .op (.load (Memref.whole cc0_scratch0) (Rect.unit (s := Sh3 2 512) off (Sh3 1 256).size inb₁).toLoadRect hl₁) fun v =>
               .op (.load (Memref.whole cc0_scratch1) (Rect.unit (s := Sh3 4 256) ![0, 0, 0] (Sh3 1 256).size inb₂).toLoadRect hl₂) fun _ =>
               .op (.store (Memref.whole cc0_scratch1) (Rect.unit (s := Sh3 4 256) ![0, 0, 0] (Sh3 1 256).size inb₃) (pay v) Finset.univ hx hm) fun _ =>
               .op (.load (Memref.whole cc0_scratch0) (Rect.unit (s := Sh3 2 512) off' (Sh3 1 256).size inb₄).toLoadRect hl₃) fun w =>
               .op (.load (Memref.whole cc0_scratch2) (Rect.unit (s := Sh3 4 256) ![0, 0, 0] (Sh3 1 256).size inb₅).toLoadRect hl₄) fun _ =>
               .op (.store (Memref.whole cc0_scratch2) (Rect.unit (s := Sh3 4 256) ![0, 0, 0] (Sh3 1 256).size inb₆) (pay' w) Finset.univ hx' hm') k) Q) := by
  iintro ⟨#HR, #Hlev, Ho, Hit, Hif, ⟨Htt, Htf, Hcb⟩, Hp, Ha⟩ Hk
  ihave Hit := (idle_lend c true i) $$ Hit
  icases Hit with ⟨Hbt, #Hnt, Hst, Hat0, Hat1, Hat2⟩
  ihave Hif := (idle_lend c false i) $$ Hif
  icases Hif with ⟨Hbf, #Hnf, Hsf, Haf0, Haf1, Haf2⟩
  unfold nextBar slotX
  icases Hst with ⟨%Xt, Hst⟩
  icases Hsf with ⟨%Xf, Hsf⟩
  iapply (wp_sig m c true i (sigDue c i false :: l) hi hn rfl) $$ [Ho Htt Hbt]
  · isplitr; · iexact HR
    isplitl [Ho]; · iexact Ho
    isplitl [Htt]; · iexact Htt
    isplitr; · iexact Hnt
    iexact Hbt
  iintro Ho
  iapply (wp_sig m c false i l hi hn' rfl) $$ [Ho Htf Hbf]
  · isplitr; · iexact HR
    isplitl [Ho]; · iexact Ho
    isplitl [Htf]; · iexact Htf
    isplitr; · iexact Hnf
    iexact Hbf
  iintro Ho
  iapply (wp_waitBar m c i l hi hl rfl) $$ [Hcb Hp Ho]
  · isplitr; · iexact HR
    isplitr; · iexact Hlev
    isplitl [Hcb]; · iexact Hcb
    isplitl [Hp]; · iexact Hp
    iexact Ho
  iintro ⟨Hbt, Hbf, Hp, Ho⟩
  ihave Ha := (acc_split c p (h₁ := ⟨hp.1, by decide⟩) (h₂ := ⟨hp.1, by decide⟩) (partF m c i)) $$ Ha
  icases Ha with ⟨Hu, Hl⟩
  unfold accO pcO
  iapply (wp_load_win c ho _) $$ [Hu]; · iexact Hu
  iintro Hu
  iapply (wp_load_win c rfl Xt) $$ [Hst]; · iexact Hst
  iintro Hst
  iapply (wp_store_win c rfl Xt (val m c true i 0) (hw _)) $$ [Hst]; · iexact Hst
  iintro Hst
  iapply (wp_load_win c ho' _) $$ [Hl]; · iexact Hl
  iintro Hl
  iapply (wp_load_win c rfl Xf) $$ [Hsf]; · iexact Hsf
  iintro Hsf
  iapply (wp_store_win c rfl Xf (val m c false i 0) (hw' _)) $$ [Hsf]; · iexact Hsf
  iintro Hsf
  iapply Hk
  isplitl [Ho]; · iexact Ho
  isplitl [Hp]; · iexact Hp
  isplitl [Hu Hl]
  · unfold red
    iapply (Entails.of_eq (congrArg (owns _ _ _) (cat_rows (by decide : 256 + 256 = 512) (partF m c i))))
    iapply (owns_win_join accB c (s := p) (a := 0) (R₁ := 256) (R₂ := 256) _ (rows 0 256 _ (partF m c i)) (rows 256 256 _ (partF m c i)))
    isplitl [Hu]; · iexact Hu
    iexact Hl
  unfold side pcO
  isplitl [Hbt Hst Hat0 Hat1 Hat2]
  · isplitl [Hbt]; · iexact Hbt
    isplitl [Hst]; · iexact Hst
    isplitl [Hat0]; · iexact Hat0
    isplitl [Hat1]; · iexact Hat1
    iexact Hat2
  isplitl [Hbf]; · iexact Hbf
  isplitl [Hsf]; · iexact Hsf
  isplitl [Haf0]; · iexact Haf0
  isplitl [Haf1]; · iexact Haf1
  iexact Haf2

theorem yes6 (t : Fin cfg0.N) (h : t.val % 16 = 15) : k0_cond6 (grid0.coords t) = 1#1 := (cond6_iff _).mpr (by rw [← coords_1 t] at h; exact h)
theorem yes7 (t : Fin cfg0.N) (h : t.val / 16 < 3) : k0_cond7 (grid0.coords t) = 1#1 := (cond7_iff _).mpr (by rw [← coords_0 t] at h; exact h)
theorem no7 (t : Fin cfg0.N) (h : t.val / 16 = 3) : ¬ k0_cond7 (grid0.coords t) = 1#1 := fun e => by
  rw [cond7_iff] at e; rw [← coords_0 t] at h; exact absurd e (by rw [show ((grid0.coords t) 0).val = 3 from h]; decide)
theorem yes8 (t : Fin cfg0.N) (h : t.val / 16 = 3) : k0_cond8 (grid0.coords t) = 1#1 := (cond8_iff _).mpr (by rw [← coords_0 t] at h; exact h)
theorem no8 (t : Fin cfg0.N) (h : t.val / 16 < 3) : ¬ k0_cond8 (grid0.coords t) = 1#1 := fun e => by
  rw [cond8_iff] at e; rw [← coords_0 t] at h; exact absurd h (by rw [show ((cfg0.grid.coords t) 0).val = 3 from e]; decide)

/-- A tile's first slot, for a tile that hops whole. -/
theorem slot_pc (c : Dev nD) (d : Bool) (r : ℕ) (hr : r < 3) :
    pcO c d 0 0 256 (by decide) (val m c d r 0) ⊢ pc m c d (0 : Fin 3).val 0 r (slot_ok 0 0 r) := by
  have key : ∀ R, R = 256 → ∀ h : 0 < 4 ∧ 0 + R ≤ 256, pcO c d 0 0 256 (by decide) (val m c d r 0) ⊢ pcO c d 0 0 R h (rows 0 R h.2 (val m c d r 0)) := by
    rintro R rfl h
    rw [rows_all]
  exact key _ (ln_lt hr) _

/-- One direction of a tile that hops whole, after the barrier: the first hop can start, the others wait for their rows. -/
theorem side_go (c : Dev nD) (d : Bool) (r : ℕ) (hr : r < 3) :
    iprop(side m c d r ∗ tok (F := F) c d 0 0 r ∗ tok (F := F) c d 1 0 r ∗ tok (F := F) c d 2 0 r)
      ⊢ iprop(go (F := F) c d 0 0 r ∗ pc m c d (0 : Fin 3).val 0 r (slot_ok 0 0 r) ∗ todo (F := F) c d r 1 ∗ todo (F := F) c d r 2) := by
  unfold side barPay
  iintro ⟨⟨⟨Hb0, Hb1, Hb2⟩, Hs, Ha0, Ha1, Ha2⟩, Ht0, Ht1, Ht2⟩
  isplitl [Hb0 Ha0 Ht0]
  · iapply (todo_go c d 0 r hr)
    unfold todo
    isplitl [Ht0]; · iexact Ht0
    isplitl [Ha0]; · iexact Ha0
    iexact Hb0
  isplitl [Hs]
  · iapply (slot_pc m c d r hr); iexact Hs
  unfold todo
  isplitl [Hb1 Ha1 Ht1]
  · isplitl [Ht1]; · iexact Ht1
    isplitl [Ha1]; · iexact Ha1
    iexact Hb1
  isplitl [Ht2]; · iexact Ht2
  isplitl [Ha2]; · iexact Ha2
  iexact Hb2

/-- The last point of a tile that is not the last. -/
theorem body_begin (c : Dev nD) (t : Fin cfg0.N) (i : ℕ) (hr : i < 3) (hi : t.val / 16 = i) (hk : t.val % 16 = 15) (X : Blk F 512)
    (hX : add X (mlp m c t) = partF m c i) {hp hp'} :
    iprop(Recs m ∗ levAts L lv ∗ due c (tail c i) ∗ (idle (F := F) c true i ∗ idle (F := F) c false i) ∗ toks (F := F) c i ∗ pos c kBar i
        ∗ staged m c t ∗ accO c (t.val / 16 % 2) 0 512 hp X)
      ⊢ wp frame (wpE (defs₀ (F := F)) 𝒱₀ (c : Thread nD τ) none) Set.univ (bodyAt0 t)
          (fun _ => iprop(due c (hops c i 0 ++ tail c (i + 1)) ∗ (fl (F := F) c true i 0 ∗ fl (F := F) c false i 0) ∗ pos c kBar (i + 1)
            ∗ staged m c t ∗ accO c (i % 2) 0 512 hp' (red m c i 0))) := by
  have e0 : ((grid0.coords t) 0).val = t.val / 16 := coords_0 t
  rw [tail_lt c hr]
  simp only [fl]
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, semSignalWord, semWaitWord,
    ↓dif_neg (no1 t (by omega)), ↓dif_pos (yes2 t (by omega)), ↓dif_neg (no3 t (by omega)), ↓dif_neg (no4 t (by omega)), ↓dif_neg (no5 t (by omega)),
    ↓dif_pos (yes6 t hk), ↓dif_pos (yes7 t (by omega)), ↓dif_neg (no8 t (by omega))]
  iintro ⟨#HR, #Hlev, Ho, ⟨Hit, Hif⟩, Htk, Hp, Hs, Ha⟩
  iapply (wp_mlp m c t _ X ((off2_eq _).trans (by rw [e0]))) $$ [Hs Ha]
  · isplitl [Hs]; · iexact Hs
    iexact Ha
  rw [hX]
  iintro ⟨Hs, Ha⟩
  unfold toks
  icases Htk with ⟨Htb, Htt, Htf⟩
  iapply (wp_begin m c i (t.val / 16 % 2) (hopDue c i true 0 0 :: hopDue c i false 0 0 :: (hops c i 0 ++ tail c (i + 1))) (by omega) (above_bar c i hr)
    (dev5_eq c _) (dev6_eq c _) ((off11_eq _).trans (by rw [e0])) ((off12_eq _).trans (by rw [e0])) k0_pay1 k0_pay2 (pay_copy _ _) (pay_copy _ _)) $$ [Ho Hit Hif Htb Hp Ha]
  · isplitr; · iexact HR
    isplitr; · iexact Hlev
    isplitl [Ho]; · iexact Ho
    isplitl [Hit]; · iexact Hit
    isplitl [Hif]; · iexact Hif
    isplitl [Htb]; · iexact Htb
    isplitl [Hp]; · iexact Hp
    iexact Ha
  iintro ⟨Ho, Hp, Ha, Hst, Hsf⟩
  ihave Hst := (side_go m c true i hr) $$ [Hst Htt]
  · isplitl [Hst]; · iexact Hst
    iexact Htt
  ihave Hsf := (side_go m c false i hr) $$ [Hsf Htf]
  · isplitl [Hsf]; · iexact Hsf
    iexact Htf
  unfold go
  icases Hst with ⟨⟨Hgt, Hxt⟩, Hpt, H1t, H2t⟩
  icases Hsf with ⟨⟨Hgf, Hxf⟩, Hpf, H1f, H2f⟩
  ihave #Hr := (show pos c kBar (i + 1) ⊢ reached ER (cell c kBar) (i + 1) from by unfold pos; iintro ⟨-, H⟩; iexact H) $$ Hp
  iapply (wp_hops m c 0 0 i (hops c i 0 ++ tail c (i + 1)) (by show i < 4; omega) (ln_lt hr) (dev7_eq c _) (dev8_eq c _)) $$ [Ho Hgt Hxt Hpt Hgf Hxf Hpf]
  · isplitr; · iexact HR
    isplitl [Ho]; · iexact Ho
    isplitl [Hgt Hxt Hpt]
    · isplitl [Hgt]; · iexact Hgt
      isplitl [Hpt]; · iexact Hpt
      iexact Hxt
    isplitl [Hgf Hxf Hpf]
    · isplitl [Hgf]; · iexact Hgf
      isplitl [Hpf]; · iexact Hpf
      iexact Hxf
    rw [if_pos ⟨rfl, rfl⟩]
    iexact Hr
  iintro ⟨Hit, Hif, Ho⟩
  rw [wp_ret]; imodintro
  isplitl [Ho]; · iexact Ho
  isplitl [Hit H1t H2t Hif H1f H2f]
  · isplitl [Hit H1t H2t]
    · isplitl [Hit]; · iexact Hit
      isplitl [H1t]; · iexact H1t
      iexact H2t
    isplitl [Hif]; · iexact Hif
    isplitl [H1f]; · iexact H1f
    iexact H2f
  isplitl [Hp]; · iexact Hp
  isplitl [Hs]; · iexact Hs
  subst hi
  iexact Ha

end Cert.K

end
-- ==== Proof.Last.lean ====
/-
The last tile's reduction: its hops go in two pieces, and nothing is left to overlap them with.
-/
module

public import proofs.«01_k».proof.Proof.Begin

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {defs : Defs nD τ sig (Elt F) Λ₀}

/-! ## Pieces of 128 rows -/

theorem rows_rows {α : Type} {R R₁ R₂ : ℕ} (a o : ℕ) (h₁ : a + R₁ ≤ R) (h₂ : o + R₂ ≤ R₁) (h : a + o + R₂ ≤ R) (X : (Sh2 R).Idx → α) :
    rows o R₂ h₂ (rows a R₁ h₁ X) = rows (a + o) R₂ h X := by
  funext y
  exact congrArg X (congrArg (fun r => ix2 r (y 1)) (Fin.ext (Nat.add_assoc a o (y 0).val).symm))
theorem rows_congr {α : Type} {R a b R' : ℕ} (e : a = b) {h : a + R' ≤ R} {h' : b + R' ≤ R} (X : (Sh2 R).Idx → α) : rows a R' h X = rows b R' h' X := by
  subst e; rfl
theorem rows_cat_up {α : Type} {R₁ R₂ R : ℕ} (h : R₁ + R₂ = R) (X : (Sh2 R₁).Idx → α) (Y : (Sh2 R₂).Idx → α) (a R' : ℕ) (h₁ : a + R' ≤ R₁) (h₂ : a + R' ≤ R) :
    rows a R' h₂ (cat h X Y) = rows a R' h₁ X := by
  funext y
  have hy : (y 0).val < R' := (y 0).isLt
  exact dif_pos (show a + (y 0).val < R₁ by omega)
theorem rows_cat_dn {α : Type} {R₁ R₂ R : ℕ} (h : R₁ + R₂ = R) (X : (Sh2 R₁).Idx → α) (Y : (Sh2 R₂).Idx → α) (a R' : ℕ) (h₁ : a + R' ≤ R₂) (h₂ : R₁ + a + R' ≤ R) :
    rows (R₁ + a) R' h₂ (cat h X Y) = rows a R' h₁ Y := by
  funext y
  refine (dif_neg (show ¬ R₁ + a + (y 0).val < R₁ by omega)).trans ?_
  exact congrArg Y (congrArg (fun r => ix2 r (y 1)) (Fin.ext (by show R₁ + a + (y 0).val - R₁ = a + (y 0).val; omega)))
theorem rows_add {R : ℕ} (a R' : ℕ) (h : a + R' ≤ R) (X Y : Blk F R) : rows a R' h (add X Y) = add (rows a R' h X) (rows a R' h Y) := rfl

theorem j_le (j : Fin 2) : 128 * j.val + 128 ≤ 256 := by have := j.isLt; omega
theorem j_up (j : Fin 2) : 128 * j.val + 128 ≤ 512 := by have := j_le j; omega
theorem j_dn (j : Fin 2) : 256 + 128 * j.val + 128 ≤ 512 := by have := j_le j; omega

theorem red_up (c : Dev nD) (n : ℕ) (j : Fin 2) {h} :
    add (rows (128 * j.val) 128 (j_up j) (red m c 3 n)) (rows (128 * j.val) 128 h (val m c true 3 (n + 1))) = rows (128 * j.val) 128 (j_up j) (red m c 3 (n + 1)) := by
  conv_rhs => unfold red
  rw [rows_cat_up _ _ _ _ _ (j_le j), rows_add, rows_rows 0 (128 * j.val) _ _ (by have := j_up j; omega)]
  exact congrArg (fun X => add X _) (rows_congr (Nat.zero_add _).symm _)
theorem red_dn (c : Dev nD) (n : ℕ) (j : Fin 2) {h} :
    add (rows (256 + 128 * j.val) 128 (j_dn j) (red m c 3 n)) (rows (128 * j.val) 128 h (val m c false 3 (n + 1)))
      = rows (256 + 128 * j.val) 128 (j_dn j) (red m c 3 (n + 1)) := by
  conv_rhs => unfold red
  rw [rows_cat_dn _ _ _ _ _ (j_le j), rows_add, rows_rows 256 (128 * j.val) _ _ (j_dn j)]

/-- Piece `j` of both halves of the last tile, with `n` arrivals added. -/
def accL (c : Dev nD) (j : Fin 2) (n : ℕ) : sProp 𝕄 :=
  iprop(accO c 1 (128 * j.val) 128 ⟨by decide, j_up j⟩ (rows (128 * j.val) 128 (j_up j) (red m c 3 n))
    ∗ accO c 1 (256 + 128 * j.val) 128 ⟨by decide, j_dn j⟩ (rows (256 + 128 * j.val) 128 (j_dn j) (red m c 3 n)))

theorem accL_split (c : Dev nD) (n : ℕ) {h} : accO c 1 0 512 h (red m c 3 n) ⊢ iprop(accL m c 0 n ∗ accL m c 1 n) := by
  iintro H
  ihave H' := (acc_split c 1 (h₁ := by decide) (h₂ := by decide) (red m c 3 n)) $$ H
  icases H' with ⟨Hu, Hl⟩
  unfold accO
  ihave Hu' := (owns_win_split accB c (s := 1) (a := 0) (R₁ := 128) (R₂ := 128) (h₁ := inbOf (by decide)) (h₂ := inbOf (by decide)) (by decide) (rows 0 256 _ (red m c 3 n))) $$ Hu
  icases Hu' with ⟨Hu0, Hu1⟩
  ihave Hl' := (owns_win_split accB c (s := 1) (a := 256) (R₁ := 128) (R₂ := 128) (h₁ := inbOf (by decide)) (h₂ := inbOf (by decide)) (by decide) (rows 256 256 _ (red m c 3 n))) $$ Hl
  icases Hl' with ⟨Hl0, Hl1⟩
  rw [rows_rows 0 0 _ _ (by decide), rows_rows 0 128 _ _ (by decide), rows_rows 256 0 _ _ (by decide), rows_rows 256 128 _ _ (by decide)]
  unfold accL accO
  isplitl [Hu0 Hl0]
  · isplitl [Hu0]; · iexact Hu0
    iexact Hl0
  isplitl [Hu1]; · iexact Hu1
  iexact Hl1

/-- Two adjacent pieces of one half make the half. -/
theorem half_join (c : Dev nD) (a : ℕ) (X : Blk F 512) {h h₁ h₂ h₃ h₄ h₅} :
    iprop(accO c 1 a 128 h₁ (rows a 128 h₂ X) ∗ accO c 1 (a + 128) 128 h₃ (rows (a + 128) 128 h₄ X)) ⊢ accO c 1 a 256 h (rows a 256 h₅ X) := by
  have e : rows a 256 h₅ X = cat (by decide : 128 + 128 = 256) (rows a 128 h₂ X) (rows (a + 128) 128 h₄ X) := by
    rw [← cat_rows (by decide : 128 + 128 = 256) (rows a 256 h₅ X), rows_rows a 0 _ _ h₂, rows_rows a 128 _ _ h₄]
    rfl
  rw [e]
  unfold accO
  exact owns_win_join accB c (s := 1) (a := a) (R₁ := 128) (R₂ := 128) _ _ _

theorem accL_join (c : Dev nD) (n : ℕ) {h} : iprop(accL m c 0 n ∗ accL m c 1 n) ⊢ accO c 1 0 512 h (red m c 3 n) := by
  unfold accL
  iintro ⟨⟨Hu0, Hl0⟩, Hu1, Hl1⟩
  ihave Hu := (show iprop(accO c 1 (128 * (0 : Fin 2).val) 128 _ (rows (128 * (0 : Fin 2).val) 128 (j_up 0) (red m c 3 n)) ∗ accO c 1 (128 * (1 : Fin 2).val) 128 _ (rows (128 * (1 : Fin 2).val) 128 (j_up 1) (red m c 3 n))) ⊢ _
    from half_join c 0 (red m c 3 n) (h := by decide) (h₅ := by decide)) $$ [Hu0 Hu1]
  · isplitl [Hu0]; · iexact Hu0
    iexact Hu1
  ihave Hl := (show iprop(accO c 1 (256 + 128 * (0 : Fin 2).val) 128 _ (rows (256 + 128 * (0 : Fin 2).val) 128 (j_dn 0) (red m c 3 n)) ∗ accO c 1 (256 + 128 * (1 : Fin 2).val) 128 _ (rows (256 + 128 * (1 : Fin 2).val) 128 (j_dn 1) (red m c 3 n))) ⊢ _
    from half_join c 256 (red m c 3 n) (h := by decide) (h₅ := by decide)) $$ [Hl0 Hl1]
  · isplitl [Hl0]; · iexact Hl0
    iexact Hl1
  unfold accO
  iapply (Entails.of_eq (congrArg (owns _ _ _) (cat_rows (by decide : 256 + 256 = 512) (red m c 3 n))))
  iapply (owns_win_join accB c (s := 1) (a := 0) (R₁ := 256) (R₂ := 256) _ (rows 0 256 _ (red m c 3 n)) (rows 256 256 _ (red m c 3 n)))
  isplitl [Hu]; · iexact Hu
  iexact Hl

/-! ## One piece's hop and stage, both directions together -/

/-- Both directions' hop `s` of piece `j` may start. -/
def goL (c : Dev nD) (s : Fin 3) (j : Fin 2) (r : ℕ) : sProp 𝕄 := iprop(go (F := F) c true s j r ∗ go (F := F) c false s j r)
/-- The rows hop `s` of piece `j` sends, both directions. -/
def pcL (c : Dev nD) (s : ℕ) (j : Fin 2) (r : ℕ) (h : s < 4 ∧ 128 * j.val + ln j r ≤ 256) : sProp 𝕄 := iprop(pc m c true s j r h ∗ pc m c false s j r h)
/-- Under way, both directions. -/
def inL (c : Dev nD) (s : Fin 3) (j : Fin 2) (r : ℕ) : sProp 𝕄 := iprop(infl (F := F) c true s j r ∗ infl (F := F) c false s j r)
/-- A hop of one piece that is over. -/
def left (c : Dev nD) (d : Bool) (s : Fin 3) (j : Fin 2) (r : ℕ) : sProp 𝕄 :=
  iprop(pcX (F := F) c d s.val j r (slot_ok s j r) ∗ at2 (F := F) c d s j (r + 1))
def leftL (c : Dev nD) (s : Fin 3) (j : Fin 2) (r : ℕ) : sProp 𝕄 := iprop(left (F := F) c true s j r ∗ left (F := F) c false s j r)

theorem wp_hopL {α : Type} (c : Dev nD) (s : Fin 3) (j : Fin 2) (r : ℕ) (l : List Due) (hr : r < nr j)
    (hT : j = 0 → r + 1 = 4) {R : ℕ} (hR : ln j r = R) {n n' : Dev nD} (hn : n = tgt true c) (hn' : n' = tgt false c)
    {h₁ h₂ h₃ h₄} {hsc hsrc hdst hsem hsc' hsrc' hdst' hsem'}
    {k : PUnit → Prog (TpuEff nD τ sig (Elt F) Λ₀ .tc) α} {Q : α → sProp 𝕄} :
    iprop(Recs m ∗ due c (hopDue c r true s j :: hopDue c r false s j :: l) ∗ goL (F := F) c s j r ∗ pcL m c s.val j r (slot_ok s j r)
        ∗ reached ER (cell c kBar) 4)
      ⊢ iprop((inL (F := F) c s j r ∗ due c l -∗ wp frame (wpE defs 𝒱₀ (c : Thread nD τ) none) Set.univ (k ⟨⟩) Q)
          -∗ wp frame (wpE defs 𝒱₀ (c : Thread nD τ) none) Set.univ
              (.op (.enqueueDma (win (Memref.whole cc0_scratch1) s.val (128 * j.val) R h₁)
                  (.remote (Dev.tc n : Thread nD τ) (win (Memref.whole cc0_scratch1) (s.val + 1) (128 * j.val) R h₂) (semOf (kSnd true s j)) hsc)
                  (semOf (kRcv true s j)) hsrc hdst hsem) fun _ =>
               .op (.enqueueDma (win (Memref.whole cc0_scratch2) s.val (128 * j.val) R h₃)
                  (.remote (Dev.tc n' : Thread nD τ) (win (Memref.whole cc0_scratch2) (s.val + 1) (128 * j.val) R h₄) (semOf (kSnd false s j)) hsc')
                  (semOf (kRcv false s j)) hsrc' hdst' hsem') k) Q) := by
  unfold goL pcL inL go
  iintro ⟨#HR, Ho, ⟨⟨Hrt, Hdt⟩, Hrf, Hdf⟩, ⟨Hst, Hsf⟩, #Hb⟩ Hk
  ihave Hb' := (show reached ER (cell c kBar) 4 ⊢ (if s = 0 ∧ j = 0 then reached ER (cell c kBar) (r + 1) else iprop(emp)) from by
    split
    · next h => exact Entails.of_eq (congrArg (reached ER (cell c kBar)) (hT h.2).symm)
    · iintro -; iempintro) $$ Hb
  iapply (wp_hops m c s j r l hr hR hn hn') $$ [Ho Hrt Hdt Hrf Hdf Hst Hsf Hb']
  · isplitr; · iexact HR
    isplitl [Ho]; · iexact Ho
    isplitl [Hrt Hdt Hst]
    · isplitl [Hrt]; · iexact Hrt
      isplitl [Hst]; · iexact Hst
      iexact Hdt
    isplitl [Hrf Hdf Hsf]
    · isplitl [Hrf]; · iexact Hrf
      isplitl [Hsf]; · iexact Hsf
      iexact Hdf
    iexact Hb'
  iintro ⟨Hit, Hif, Ho⟩
  iapply Hk
  isplitr [Ho]
  · isplitl [Hit]; · iexact Hit
    iexact Hif
  iexact Ho

theorem landed_left (c : Dev nD) (d : Bool) (s : Fin 3) (j : Fin 2) (r : ℕ) :
    landed m c d s j r ⊢ iprop(pc m c d (s.val + 1) j r (slot_ok' s j r) ∗ left (F := F) c d s j r) := by
  unfold landed left
  iintro ⟨Hp, Hx, Ha, Hb⟩
  isplitl [Hp]; · iexact Hp
  isplitl [Hx]; · iexact Hx
  iexact Ha

theorem wp_stageL {α : Type} (c : Dev nD) (s : Fin 3) (j : Fin 2) (r : ℕ) (l : List Due) (hr : r < nr j) (hT : tl j r = 3)
    (hl : Above (26 + s.val) l) (hR : ln j r = 128)
    {sm₁ sm₂ sm₃ sm₄ : DmaSem sig} (hsm₁ : SemLoc.dma sm₁ = semOf (kRcv true s j)) (hsm₂ : SemLoc.dma sm₂ = semOf (kSnd true s j))
    (hsm₃ : SemLoc.dma sm₃ = semOf (kRcv false s j)) (hsm₄ : SemLoc.dma sm₄ = semOf (kSnd false s j))
    {sp₁ sp₂ sp₃ sp₄ : Space} {S₁ S₂ S₃ S₄ : Shape} {e₁ e₂ e₃ e₄ : EltTy} {src₁ : Memref sig .tc sp₁ S₁ e₁} {src₂ : Memref sig .tc sp₂ S₂ e₂}
    {src₃ : Memref sig .tc sp₃ S₃ e₃} {src₄ : Memref sig .tc sp₄ S₄ e₄}
    {b₁ b₂ b₃ b₄ : ℕ} {h₁ h₂ h₃ h₄} {hsrc₁ hdst₁ hsrc₂ hdst₂ hsrc₃ hdst₃ hsrc₄ hdst₄}
    {off₁ off₂ off₃ off₄ : Fin 3 → ℕ} (ho₁ : off₁ = ![1, 128 * j.val, 0]) (ho₂ : off₂ = ![1, 256 + 128 * j.val, 0])
    (ho₃ : off₃ = ![s.val + 1, 128 * j.val, 0]) (ho₄ : off₄ = ![s.val + 1, 128 * j.val, 0])
    {inb₁ inb₂ inb₃ inb₄ inb₅ inb₆ inb₇ inb₈} {hl₁ hl₂ hl₃ hl₄ hl₅ hl₆ hx hm hx' hm'}
    (pay pay' : Vec F (Sh3 1 128) .bf16 → Vec F (Sh3 1 128) .bf16 → Vec F (Sh3 1 128) .bf16)
    (hw : ∀ X Y, dn (pay (up X) (up Y)) = add X Y) (hw' : ∀ X Y, dn (pay' (up X) (up Y)) = add X Y)
    {k : PUnit → Prog (TpuEff nD τ sig (Elt F) Λ₀ .tc) α} {Q : α → sProp 𝕄} :
    iprop(Recs m ∗ levAts L lv ∗ due c l ∗ inL (F := F) c s j r ∗ accL m c j s.val)
      ⊢ iprop((due c l ∗ pcL m c (s.val + 1) j r (slot_ok' s j r) ∗ leftL (F := F) c s j r ∗ accL m c j (s.val + 1)
            -∗ wp frame (wpE defs 𝒱₀ (c : Thread nD τ) none) Set.univ (k ⟨⟩) Q)
          -∗ wp frame (wpE defs 𝒱₀ (c : Thread nD τ) none) Set.univ
              (.op (.waitDma2 sm₁ src₁ (win (Memref.whole cc0_scratch1) b₁ (128 * j.val) 128 h₁) hsrc₁ hdst₁) fun _ =>
               .op (.waitDma2 sm₂ src₂ (win (Memref.whole cc0_scratch1) b₂ (128 * j.val) 128 h₂) hsrc₂ hdst₂) fun _ =>
               .op (.waitDma2 sm₃ src₃ (win (Memref.whole cc0_scratch2) b₃ (128 * j.val) 128 h₃) hsrc₃ hdst₃) fun _ =>
               .op (.waitDma2 sm₄ src₄ (win (Memref.whole cc0_scratch2) b₄ (128 * j.val) 128 h₄) hsrc₄ hdst₄) fun _ =>
               .op (.load (Memref.whole cc0_scratch0) (Rect.unit (s := Sh3 2 512) off₁ (Sh3 1 128).size inb₁).toLoadRect hl₁) fun v =>
               .op (.load (Memref.whole cc0_scratch1) (Rect.unit (s := Sh3 4 256) off₃ (Sh3 1 128).size inb₂).toLoadRect hl₂) fun w =>
               .op (.load (Memref.whole cc0_scratch0) (Rect.unit (s := Sh3 2 512) off₁ (Sh3 1 128).size inb₃).toLoadRect hl₃) fun _ =>
               .op (.store (Memref.whole cc0_scratch0) (Rect.unit (s := Sh3 2 512) off₁ (Sh3 1 128).size inb₄) (pay v w) Finset.univ hx hm) fun _ =>
               .op (.load (Memref.whole cc0_scratch0) (Rect.unit (s := Sh3 2 512) off₂ (Sh3 1 128).size inb₅).toLoadRect hl₄) fun v =>
               .op (.load (Memref.whole cc0_scratch2) (Rect.unit (s := Sh3 4 256) off₄ (Sh3 1 128).size inb₆).toLoadRect hl₅) fun w =>
               .op (.load (Memref.whole cc0_scratch0) (Rect.unit (s := Sh3 2 512) off₂ (Sh3 1 128).size inb₇).toLoadRect hl₆) fun _ =>
               .op (.store (Memref.whole cc0_scratch0) (Rect.unit (s := Sh3 2 512) off₂ (Sh3 1 128).size inb₈) (pay' v w) Finset.univ hx' hm') k) Q) := by
  unfold inL pcL leftL accL
  iintro ⟨#HR, #Hlev, Ho, ⟨Hit, Hif⟩, Hat, Haf⟩ Hk
  iapply (wp_stage m c s j r l hr (by rw [hT]; exact hl) hR 1 (128 * j.val) (256 + 128 * j.val) _ _ hsm₁ hsm₂ hsm₃ hsm₄ ho₁ ho₂ ho₃ ho₄ pay pay' hw hw') $$ [Ho Hit Hif Hat Haf]
  · isplitr; · iexact HR
    isplitr; · iexact Hlev
    isplitl [Ho]; · iexact Ho
    isplitl [Hit]; · iexact Hit
    isplitl [Hif]; · iexact Hif
    isplitl [Hat]; · iexact Hat
    iexact Haf
  rw [hT, red_up, red_dn]
  iintro ⟨Hlt, Hlf, Ho, Hat, Haf⟩
  ihave Hlt := (landed_left m c true s j r) $$ Hlt
  icases Hlt with ⟨Hpt, Hlt⟩
  ihave Hlf := (landed_left m c false s j r) $$ Hlf
  icases Hlf with ⟨Hpf, Hlf⟩
  iapply Hk
  isplitl [Ho]; · iexact Ho
  isplitl [Hpt Hpf]
  · isplitl [Hpt]; · iexact Hpt
    iexact Hpf
  isplitl [Hlt Hlf]
  · isplitl [Hlt]; · iexact Hlt
    iexact Hlf
  isplitl [Hat]; · iexact Hat
  iexact Haf

/-! ## Before and after -/

/-- One direction's pieces after the last barrier: everything its six hops need. -/
def pieces (c : Dev nD) (d : Bool) : sProp 𝕄 :=
  iprop((go (F := F) c d 0 0 3 ∗ pc m c d (0 : Fin 3).val 0 3 (slot_ok 0 0 3)) ∗ (go (F := F) c d 0 1 0 ∗ pc m c d (0 : Fin 3).val 1 0 (slot_ok 0 1 0))
    ∗ (go (F := F) c d 1 0 3 ∗ go (F := F) c d 1 1 0) ∗ go (F := F) c d 2 0 3 ∗ go (F := F) c d 2 1 0)

/-- A lent slot, as the destinations of both pieces. -/
theorem go_pieces (c : Dev nD) (d : Bool) (s : Fin 3) :
    iprop(Recs m ∗ lent (F := F) c d 3 s ∗ (tok (F := F) c d s 0 3 ∗ at2 (F := F) c d s 0 3) ∗ tok (F := F) c d s 1 0 ∗ at2 (F := F) c d s 1 0)
      ⊢ iprop(go (F := F) c d s 0 3 ∗ go (F := F) c d s 1 0) := by
  unfold go ready lent
  iintro ⟨#HR, ⟨Hs, Hr⟩, ⟨Ht, Ha⟩, Ht', Ha'⟩
  ihave Hg := (Recs_get m (tgt d c) (kRcv d s 1)) $$ HR
  icases Hg with ⟨-, #Hr'⟩
  ihave Hs := (slot_splitX (tgt d c) d (s.val + 1) (h₀ := slot_ok' s 0 3) (h₁ := slot_ok' s 1 0)) $$ Hs
  icases Hs with ⟨Hs, Hs'⟩
  isplitr [Ht' Ha' Hs']
  · isplitr [Hs]
    · isplitl [Ht]; · iexact Ht
      isplitl [Ha]; · iexact Ha
      iexact Hr
    iexact Hs
  isplitr [Hs']
  · isplitl [Ht']; · iexact Ht'
    isplitl [Ha']; · iexact Ha'
    iexact Hr'
  iexact Hs'

/-- The first slot, as the sources of both pieces. -/
theorem slot_pieces (c : Dev nD) (d : Bool) :
    pcO c d 0 0 256 (by decide) (val m c d 3 0) ⊢ iprop(pc m c d (0 : Fin 3).val 0 3 (slot_ok 0 0 3) ∗ pc m c d (0 : Fin 3).val 1 0 (slot_ok 0 1 0)) := by
  unfold pc
  exact slot_split c d 0 (h₀ := slot_ok 0 0 3) (h₁ := slot_ok 0 1 0) (val m c d 3 0)

theorem side_pieces (c : Dev nD) (d : Bool) :
    iprop(Recs m ∗ side m c d 3 ∗ (tok (F := F) c d 0 0 3 ∗ tok (F := F) c d 1 0 3 ∗ tok (F := F) c d 2 0 3) ∗ toksL (F := F) c d) ⊢ pieces m c d := by
  unfold side barPay toksL pieces
  iintro ⟨#HR, ⟨⟨Hb0, Hb1, Hb2⟩, Hs, Ha0, Ha1, Ha2⟩, ⟨Ht0, Ht1, Ht2⟩, ⟨Hu0, Hc0⟩, ⟨Hu1, Hc1⟩, Hu2, Hc2⟩
  ihave Hs := (slot_pieces m c d) $$ Hs
  icases Hs with ⟨Hs, Hs'⟩
  ihave H0 := (go_pieces m c d 0) $$ [Hb0 Ht0 Ha0 Hu0 Hc0]
  · isplitr; · iexact HR
    isplitl [Hb0]; · iexact Hb0
    isplitl [Ht0 Ha0]
    · isplitl [Ht0]; · iexact Ht0
      iexact Ha0
    isplitl [Hu0]; · iexact Hu0
    iexact Hc0
  icases H0 with ⟨H0, H0'⟩
  isplitl [H0 Hs]
  · isplitl [H0]; · iexact H0
    iexact Hs
  isplitl [H0' Hs']
  · isplitl [H0']; · iexact H0'
    iexact Hs'
  isplitl [Hb1 Ht1 Ha1 Hu1 Hc1]
  · iapply (go_pieces m c d 1)
    isplitr; · iexact HR
    isplitl [Hb1]; · iexact Hb1
    isplitl [Ht1 Ha1]
    · isplitl [Ht1]; · iexact Ht1
      iexact Ha1
    isplitl [Hu1]; · iexact Hu1
    iexact Hc1
  iapply (go_pieces m c d 2)
  isplitr; · iexact HR
  isplitl [Hb2]; · iexact Hb2
  isplitl [Ht2 Ha2]
  · isplitl [Ht2]; · iexact Ht2
    iexact Ha2
  isplitl [Hu2]; · iexact Hu2
  iexact Hc2

theorem pieces_both (c : Dev nD) : iprop(pieces m c true ∗ pieces m c false)
    ⊢ iprop(goL (F := F) c 0 0 3 ∗ pcL m c (0 : Fin 3).val 0 3 (slot_ok 0 0 3) ∗ goL (F := F) c 0 1 0 ∗ pcL m c (0 : Fin 3).val 1 0 (slot_ok 0 1 0)
      ∗ goL (F := F) c 1 0 3 ∗ goL (F := F) c 1 1 0 ∗ goL (F := F) c 2 0 3 ∗ goL (F := F) c 2 1 0) := by
  unfold pieces goL pcL
  iintro ⟨⟨⟨A0, A1⟩, ⟨A2, A3⟩, ⟨A4, A5⟩, A6, A7⟩, ⟨B0, B1⟩, ⟨B2, B3⟩, ⟨B4, B5⟩, B6, B7⟩
  isplitl [A0 B0]
  · isplitl [A0]; · iexact A0
    iexact B0
  isplitl [A1 B1]
  · isplitl [A1]; · iexact A1
    iexact B1
  isplitl [A2 B2]
  · isplitl [A2]; · iexact A2
    iexact B2
  isplitl [A3 B3]
  · isplitl [A3]; · iexact A3
    iexact B3
  isplitl [A4 B4]
  · isplitl [A4]; · iexact A4
    iexact B4
  isplitl [A5 B5]
  · isplitl [A5]; · iexact A5
    iexact B5
  isplitl [A6 B6]
  · isplitl [A6]; · iexact A6
    iexact B6
  isplitl [A7]; · iexact A7
  iexact B7

/-- One direction when everything is over: its cells and its four slots. -/
def over (c : Dev nD) (d : Bool) : sProp 𝕄 :=
  iprop(((at2 (F := F) c d 0 0 4 ∗ at2 (F := F) c d 0 1 1) ∗ (at2 (F := F) c d 1 0 4 ∗ at2 (F := F) c d 1 1 1) ∗ at2 (F := F) c d 2 0 4 ∗ at2 (F := F) c d 2 1 1)
    ∗ slotX (F := F) c d 0 (by decide) ∗ slotX (F := F) c d 1 (by decide) ∗ slotX (F := F) c d 2 (by decide) ∗ slotX (F := F) c d 3 (by decide))

theorem over_mk (c : Dev nD) (d : Bool) :
    iprop((left (F := F) c d 0 0 3 ∗ left (F := F) c d 0 1 0) ∗ (left (F := F) c d 1 0 3 ∗ left (F := F) c d 1 1 0) ∗ (left (F := F) c d 2 0 3 ∗ left (F := F) c d 2 1 0)
        ∗ pc m c d ((2 : Fin 3).val + 1) 0 3 (slot_ok' 2 0 3) ∗ pc m c d ((2 : Fin 3).val + 1) 1 0 (slot_ok' 2 1 0)) ⊢ over (F := F) c d := by
  unfold left over
  iintro ⟨⟨⟨H0, A0⟩, H0', A0'⟩, ⟨⟨H1, A1⟩, H1', A1'⟩, ⟨⟨H2, A2⟩, H2', A2'⟩, H3, H3'⟩
  isplitl [A0 A0' A1 A1' A2 A2']
  · isplitl [A0 A0']
    · isplitl [A0]; · iexact A0
      iexact A0'
    isplitl [A1 A1']
    · isplitl [A1]; · iexact A1
      iexact A1'
    isplitl [A2]; · iexact A2
    iexact A2'
  isplitl [H0 H0']
  · iapply (slot_joinX c d 0)
    isplitl [H0]; · iexact H0
    iexact H0'
  isplitl [H1 H1']
  · iapply (slot_joinX c d 1)
    isplitl [H1]; · iexact H1
    iexact H1'
  isplitl [H2 H2']
  · iapply (slot_joinX c d 2)
    isplitl [H2]; · iexact H2
    iexact H2'
  iapply (slot_joinX c d 3)
  isplitl [H3]
  · iapply (pc_pcX m c d ((2 : Fin 3).val + 1) 0 3); iexact H3
  iapply (pc_pcX m c d ((2 : Fin 3).val + 1) 1 0); iexact H3'

theorem over_both (c : Dev nD) :
    iprop(leftL (F := F) c 0 0 3 ∗ leftL (F := F) c 0 1 0 ∗ leftL (F := F) c 1 0 3 ∗ leftL (F := F) c 1 1 0 ∗ leftL (F := F) c 2 0 3 ∗ leftL (F := F) c 2 1 0
        ∗ pcL m c ((2 : Fin 3).val + 1) 0 3 (slot_ok' 2 0 3) ∗ pcL m c ((2 : Fin 3).val + 1) 1 0 (slot_ok' 2 1 0)) ⊢ iprop(over (F := F) c true ∗ over (F := F) c false) := by
  unfold leftL pcL
  iintro ⟨⟨A0, B0⟩, ⟨A1, B1⟩, ⟨A2, B2⟩, ⟨A3, B3⟩, ⟨A4, B4⟩, ⟨A5, B5⟩, ⟨A6, B6⟩, A7, B7⟩
  isplitl [A0 A1 A2 A3 A4 A5 A6 A7]
  · iapply (over_mk m c true)
    isplitl [A0 A1]
    · isplitl [A0]; · iexact A0
      iexact A1
    isplitl [A2 A3]
    · isplitl [A2]; · iexact A2
      iexact A3
    isplitl [A4 A5]
    · isplitl [A4]; · iexact A4
      iexact A5
    isplitl [A6]; · iexact A6
    iexact A7
  iapply (over_mk m c false)
  isplitl [B0 B1]
  · isplitl [B0]; · iexact B0
    iexact B1
  isplitl [B2 B3]
  · isplitl [B2]; · iexact B2
    iexact B3
  isplitl [B4 B5]
  · isplitl [B4]; · iexact B4
    iexact B5
  isplitl [B6]; · iexact B6
  iexact B7

/-! ## The last point -/

theorem aboveL : ∀ c : Dev nD, Above 26 (hopPair c 1 ++ hopPair c 2) ∧ Above 26 (hopDue c 0 true 1 1 :: hopDue c 0 false 1 1 :: hopPair c 2)
    ∧ Above 27 (hopPair c 2) ∧ Above 27 [hopDue c 0 true 2 1, hopDue c 0 false 2 1] ∧ Above 28 [] ∧ Above 0 [] := by decide +kernel

theorem body_end (c : Dev nD) (t : Fin cfg0.N) (hi : t.val / 16 = 3) (hk : t.val % 16 = 15) (X : Blk F 512)
    (hX : add X (mlp m c t) = partF m c 3) {hp} :
    iprop(Recs m ∗ levAts L lv ∗ due c (tail c 3) ∗ (idle (F := F) c true 3 ∗ idle (F := F) c false 3) ∗ (toks (F := F) c 3 ∗ toksL (F := F) c true ∗ toksL (F := F) c false)
        ∗ pos c kBar 3 ∗ outs m c 3 ∗ staged m c t ∗ accO c 1 0 512 hp X)
      ⊢ wp frame (wpE (defs₀ (F := F)) 𝒱₀ (c : Thread nD τ) none) Set.univ (bodyAt0 t)
          (fun _ => iprop(due c [] ∗ (over (F := F) c true ∗ over (F := F) c false) ∗ pos c kBar 4 ∗ outs m c 4 ∗ staged m c t ∗ accO c 1 0 512 hp (red m c 3 3))) := by
  have e0 : ((grid0.coords t) 0).val = 3 := (coords_0 t).trans hi
  show iprop(Recs m ∗ levAts L lv ∗ due c (sigDue c 3 true :: sigDue c 3 false :: (hopPair c 0 ++ (hopPair c 1 ++ hopPair c 2))) ∗ _) ⊢ _
  unfold bodyAt0
  simp only [cc0_body_eq_skeleton]; unfold cc0_body_skel
  simp only [k0_part23_eq_skeleton, k0_part24_eq_skeleton]; unfold k0_part23_skel k0_part24_skel
  simp only [Prog.lift, Prog.bind_op, Prog.bind_ret, Prog.pure_eq_ret, wp_deviceId, semSignalWord, semWaitWord,
    ↓dif_neg (no1 t (by omega)), ↓dif_pos (yes2 t (by omega)), ↓dif_neg (no3 t (by omega)), ↓dif_neg (no4 t (by omega)), ↓dif_neg (no5 t (by omega)),
    ↓dif_pos (yes6 t hk), ↓dif_neg (no7 t hi), ↓dif_pos (yes8 t hi)]
  simp only [k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton]
  unfold k0_part7_skel k0_part8_skel k0_part9_skel k0_part10_skel k0_part11_skel k0_part12_skel k0_part13_skel k0_part14_skel k0_part15_skel
    k0_part16_skel k0_part17_skel k0_part18_skel k0_part19_skel k0_part20_skel k0_part21_skel k0_part22_skel
  simp only [Prog.lift, Prog.bind_op, Prog.bind_ret, Prog.pure_eq_ret]
  iintro ⟨#HR, #Hlev, Ho, ⟨Hit, Hif⟩, ⟨Htk, HLt, HLf⟩, Hp, Hout, Hs, Ha⟩
  iapply (wp_mlp m c t _ X ((off2_eq _).trans (by rw [e0]))) $$ [Hs Ha]
  · isplitl [Hs]; · iexact Hs
    iexact Ha
  rw [hX]
  iintro ⟨Hs, Ha⟩
  unfold toks
  icases Htk with ⟨Htb, Htt, Htf⟩
  iapply (wp_begin m c 3 1 (hopPair c 0 ++ (hopPair c 1 ++ hopPair c 2)) (by decide) (above_barL c)
    (dev5_eq c _) (dev6_eq c _) ((off11_eq _).trans (by rw [e0])) ((off12_eq _).trans (by rw [e0])) k0_pay1 k0_pay2 (pay_copy _ _) (pay_copy _ _)) $$ [Ho Hit Hif Htb Hp Ha]
  · isplitr; · iexact HR
    isplitr; · iexact Hlev
    isplitl [Ho]; · iexact Ho
    isplitl [Hit]; · iexact Hit
    isplitl [Hif]; · iexact Hif
    isplitl [Htb]; · iexact Htb
    isplitl [Hp]; · iexact Hp
    iexact Ha
  iintro ⟨Ho, Hp, Ha, Hst, Hsf⟩
  ihave #Hr := (show pos c kBar (3 + 1) ⊢ reached ER (cell c kBar) 4 from by unfold pos; iintro ⟨-, H⟩; iexact H) $$ Hp
  ihave Hst := (side_pieces m c true) $$ [Hst Htt HLt]
  · isplitr; · iexact HR
    isplitl [Hst]; · iexact Hst
    isplitl [Htt]; · iexact Htt
    iexact HLt
  ihave Hsf := (side_pieces m c false) $$ [Hsf Htf HLf]
  · isplitr; · iexact HR
    isplitl [Hsf]; · iexact Hsf
    isplitl [Htf]; · iexact Htf
    iexact HLf
  ihave Ha := (accL_split m c 0) $$ Ha
  icases Ha with ⟨Ha0, Ha1⟩
  ihave Hg := (pieces_both m c) $$ [Hst Hsf]
  · isplitl [Hst]; · iexact Hst
    iexact Hsf
  icases Hg with ⟨Hg00, Hx0, Hg01, Hx1, Hg10, Hg11, Hg20, Hg21⟩
  iapply (wp_hopL m c 0 0 3 ([hopDue c 0 true 0 1, hopDue c 0 false 0 1] ++ (hopPair c 1 ++ hopPair c 2)) (by decide) (fun _ => rfl) rfl (dev9_eq c _) (dev10_eq c _)) $$ [Ho Hg00 Hx0]
  · isplitr; · iexact HR
    isplitl [Ho]; · iexact Ho
    isplitl [Hg00]; · iexact Hg00
    isplitl [Hx0]; · iexact Hx0
    iexact Hr
  iintro ⟨Hx0, Ho⟩
  iapply (wp_hopL m c 0 1 0 (hopPair c 1 ++ hopPair c 2) (by decide) (fun h => absurd h (by decide)) rfl (dev11_eq c _) (dev12_eq c _)) $$ [Ho Hg01 Hx1]
  · isplitr; · iexact HR
    isplitl [Ho]; · iexact Ho
    isplitl [Hg01]; · iexact Hg01
    isplitl [Hx1]; · iexact Hx1
    iexact Hr
  iintro ⟨Hx1, Ho⟩
  iapply (wp_stageL m c 0 0 3 _ (by decide) rfl (aboveL c).1 rfl rfl rfl rfl rfl (off13_eq _ e0) (off14_eq _ e0) rfl rfl
    (fun X Y => k0_pay11 (k0_pay9 X) (k0_pay10 Y)) k0_pay12 (pay_add _ _ _) (pay_add _ _ _)) $$ [Ho Hx0 Ha0]
  · isplitr; · iexact HR
    isplitr; · iexact Hlev
    isplitl [Ho]; · iexact Ho
    isplitl [Hx0]; · iexact Hx0
    iexact Ha0
  iintro ⟨Ho, Hx0, Hl00, Ha0⟩
  iapply (wp_hopL m c 1 0 3 (hopDue c 0 true 1 1 :: hopDue c 0 false 1 1 :: hopPair c 2) (by decide) (fun _ => rfl) rfl (dev13_eq c _) (dev14_eq c _)) $$ [Ho Hg10 Hx0]
  · isplitr; · iexact HR
    isplitl [Ho]; · iexact Ho
    isplitl [Hg10]; · iexact Hg10
    isplitl [Hx0]; · iexact Hx0
    iexact Hr
  iintro ⟨Hx0, Ho⟩
  iapply (wp_stageL m c 0 1 0 _ (by decide) rfl (aboveL c).2.1 rfl rfl rfl rfl rfl (off15_eq _ e0) (off16_eq _ e0) rfl rfl
    k0_pay13 (fun X Y => k0_pay15 (k0_pay14 X Y)) (pay_add _ _ _) (pay_add _ _ _)) $$ [Ho Hx1 Ha1]
  · isplitr; · iexact HR
    isplitr; · iexact Hlev
    isplitl [Ho]; · iexact Ho
    isplitl [Hx1]; · iexact Hx1
    iexact Ha1
  iintro ⟨Ho, Hx1, Hl01, Ha1⟩
  iapply (wp_hopL m c 1 1 0 (hopPair c 2) (by decide) (fun h => absurd h (by decide)) rfl (dev15_eq c _) (dev16_eq c _)) $$ [Ho Hg11 Hx1]
  · isplitr; · iexact HR
    isplitl [Ho]; · iexact Ho
    isplitl [Hg11]; · iexact Hg11
    isplitl [Hx1]; · iexact Hx1
    iexact Hr
  iintro ⟨Hx1, Ho⟩
  iapply (wp_stageL m c 1 0 3 _ (by decide) rfl (aboveL c).2.2.1 rfl rfl rfl rfl rfl (off13_eq _ e0) (off14_eq _ e0) rfl rfl
    k0_pay16 k0_pay17 (pay_add _ _ _) (pay_add _ _ _)) $$ [Ho Hx0 Ha0]
  · isplitr; · iexact HR
    isplitr; · iexact Hlev
    isplitl [Ho]; · iexact Ho
    isplitl [Hx0]; · iexact Hx0
    iexact Ha0
  iintro ⟨Ho, Hx0, Hl10, Ha0⟩
  iapply (wp_hopL m c 2 0 3 [hopDue c 0 true 2 1, hopDue c 0 false 2 1] (by decide) (fun _ => rfl) rfl (dev17_eq c _) (dev18_eq c _)) $$ [Ho Hg20 Hx0]
  · isplitr; · iexact HR
    isplitl [Ho]; · iexact Ho
    isplitl [Hg20]; · iexact Hg20
    isplitl [Hx0]; · iexact Hx0
    iexact Hr
  iintro ⟨Hx0, Ho⟩
  iapply (wp_stageL m c 1 1 0 _ (by decide) rfl (aboveL c).2.2.2.1 rfl rfl rfl rfl rfl (off15_eq _ e0) (off16_eq _ e0) rfl rfl
    (fun X Y => k0_pay20 (k0_pay18 X) (k0_pay19 Y)) k0_pay21 (pay_add _ _ _) (pay_add _ _ _)) $$ [Ho Hx1 Ha1]
  · isplitr; · iexact HR
    isplitr; · iexact Hlev
    isplitl [Ho]; · iexact Ho
    isplitl [Hx1]; · iexact Hx1
    iexact Ha1
  iintro ⟨Ho, Hx1, Hl11, Ha1⟩
  iapply (wp_hopL m c 2 1 0 [] (by decide) (fun h => absurd h (by decide)) rfl (dev19_eq c _) (dev20_eq c _)) $$ [Ho Hg21 Hx1]
  · isplitr; · iexact HR
    isplitl [Ho]; · iexact Ho
    isplitl [Hg21]; · iexact Hg21
    isplitl [Hx1]; · iexact Hx1
    iexact Hr
  iintro ⟨Hx1, Ho⟩
  iapply (wp_stageL m c 2 0 3 _ (by decide) rfl (aboveL c).2.2.2.2.1 rfl rfl rfl rfl rfl (off13_eq _ e0) (off14_eq _ e0) rfl rfl
    k0_pay22 (fun X Y => k0_pay24 (k0_pay23 X Y)) (pay_add _ _ _) (pay_add _ _ _)) $$ [Ho Hx0 Ha0]
  · isplitr; · iexact HR
    isplitr; · iexact Hlev
    isplitl [Ho]; · iexact Ho
    isplitl [Hx0]; · iexact Hx0
    iexact Ha0
  iintro ⟨Ho, Hx0, Hl20, Ha0⟩
  iapply (wp_stageL m c 2 1 0 _ (by decide) rfl (aboveL c).2.2.2.2.1 rfl rfl rfl rfl rfl (off15_eq _ e0) (off16_eq _ e0) rfl rfl
    k0_pay25 k0_pay26 (pay_add _ _ _) (pay_add _ _ _)) $$ [Ho Hx1 Ha1]
  · isplitr; · iexact HR
    isplitr; · iexact Hlev
    isplitl [Ho]; · iexact Ho
    isplitl [Hx1]; · iexact Hx1
    iexact Ha1
  iintro ⟨Ho, Hx1, Hl21, Ha1⟩
  ihave Ha := (accL_join m c 3 (h := hp)) $$ [Ha0 Ha1]
  · isplitl [Ha0]; · iexact Ha0
    iexact Ha1
  iapply (wp_copyout m c 3 [] (by decide) (aboveL c).2.2.2.2.2 (h := hp) (h' := by decide) (win_eq accB (off18_eq _ e0)) (outM_eq (off17_eq _ e0)) rfl rfl) $$ [Ho Hout Ha]
  · isplitr; · iexact HR
    isplitr; · iexact Hlev
    isplitl [Ho]; · iexact Ho
    isplitl [Hout]; · iexact Hout
    iexact Ha
  iintro ⟨Ho, Hout, Ha⟩
  rw [wp_ret]; imodintro
  isplitl [Ho]; · iexact Ho
  isplitl [Hl00 Hl01 Hl10 Hl11 Hl20 Hl21 Hx0 Hx1]
  · iapply (over_both m c)
    isplitl [Hl00]; · iexact Hl00
    isplitl [Hl01]; · iexact Hl01
    isplitl [Hl10]; · iexact Hl10
    isplitl [Hl11]; · iexact Hl11
    isplitl [Hl20]; · iexact Hl20
    isplitl [Hl21]; · iexact Hl21
    isplitl [Hx0]; · iexact Hx0
    iexact Hx1
  isplitl [Hp]; · iexact Hp
  isplitl [Hout]; · iexact Hout
  isplitl [Hs]; · iexact Hs
  iexact Ha

end Cert.K

end
-- ==== Proof.Steady.lean ====
/-
The state between grid points, and one point's step from one to the next.
-/
module

public import proofs.«01_k».proof.Proof.Last

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The state before point `16 * i + k` -/

/-- The number of stages of the previous tile that are over at step `k`. -/
def ph (k : ℕ) : ℕ := if k ≤ 4 then 0 else if k ≤ 9 then 1 else if k ≤ 14 then 2 else 3

def ring (c : Dev nD) (i p : ℕ) : sProp 𝕄 :=
  match i with
  | 0 => iprop(idle (F := F) c true 0 ∗ idle (F := F) c false 0)
  | r + 1 => iprop(fl (F := F) c true r p ∗ fl (F := F) c false r p)
/-- What is still owed. -/
def pend (c : Dev nD) (i p : ℕ) : List Due :=
  match i with
  | 0 => tail c 0
  | r + 1 => hops c r p ++ tail c (r + 1)
theorem par (i : ℕ) : i % 2 < 2 ∧ 0 + 512 ≤ 512 := ⟨Nat.mod_lt i (by decide), by decide⟩
/-- A buffer of the accumulator, whatever it holds. -/
def accX (c : Dev nD) (i : ℕ) : sProp 𝕄 := iprop(∃ X : Blk F 512, accO c (i % 2) 0 512 (par i) X)
/-- The tile's own buffer. -/
def curA (c : Dev nD) (i k : ℕ) : sProp 𝕄 :=
  match k with
  | 0 => accX (F := F) c i
  | k + 1 => accO c (i % 2) 0 512 (par i) (partAt m c i k)
/-- The other buffer: the previous tile, until its copy. -/
def oldA (c : Dev nD) (i p : ℕ) : sProp 𝕄 :=
  match i with
  | 0 => accX (F := F) c 1
  | r + 1 => if p < 3 then accO c (r % 2) 0 512 (par r) (red m c r p) else accX (F := F) c r
def outsN (c : Dev nD) (i p : ℕ) : sProp 𝕄 :=
  match i with
  | 0 => outs m c 0
  | r + 1 => outs m c (if p < 3 then r else r + 1)

/-- What only a tile's beginning and the previous tile's stages change. -/
def slow (c : Dev nD) (i p : ℕ) : sProp 𝕄 := iprop(ring (F := F) c i p ∗ oldA m c i p ∗ outsN m c i p)
def St (c : Dev nD) (i k : ℕ) : sProp 𝕄 := iprop(slow m c i (ph k) ∗ curA m c i k ∗ fut (F := F) c i ∗ pos c kBar i)

/-- The end: every counter at zero, the slots, the accumulator, the result. -/
def Fin1 (c : Dev nD) : sProp 𝕄 :=
  iprop((bigSep Finset.univ fun k : CK => semVal (cell c k) 0)
    ∗ ((slotX (F := F) c true 0 (by decide) ∗ slotX (F := F) c true 1 (by decide) ∗ slotX (F := F) c true 2 (by decide) ∗ slotX (F := F) c true 3 (by decide))
      ∗ slotX (F := F) c false 0 (by decide) ∗ slotX (F := F) c false 1 (by decide) ∗ slotX (F := F) c false 2 (by decide) ∗ slotX (F := F) c false 3 (by decide))
    ∗ (accX (F := F) c 0 ∗ accX (F := F) c 1)
    ∗ outO c (512 * 0) (by decide) (red m c 0 3) ∗ outO c (512 * 1) (by decide) (red m c 1 3) ∗ outO c (512 * 2) (by decide) (red m c 2 3)
    ∗ outO c (512 * 3) (by decide) (red m c 3 3))

def PhiN (c : Dev nD) (n : ℕ) : sProp 𝕄 := if n < 64 then iprop(Recs m ∗ levAts L lv ∗ St m c (n / 16) (n % 16)) else Fin1 m c
def oweN (c : Dev nD) (n : ℕ) : List Due := if n < 64 then pend c (n / 16) (ph (n % 16)) else []

theorem PhiN_at (c : Dev nD) {n i k : ℕ} (hn : n < 64) (hi : n / 16 = i) (hk : n % 16 = k) : PhiN m c n = iprop(Recs m ∗ levAts L lv ∗ St m c i k) := by
  subst hi hk; exact if_pos hn
theorem oweN_at (c : Dev nD) {n i k : ℕ} (hn : n < 64) (hi : n / 16 = i) (hk : n % 16 = k) : oweN c n = pend c i (ph k) := by
  subst hi hk; exact if_pos hn

/-! ## Steps -/

theorem t_lt (t : Fin cfg0.N) : t.val < 64 := lt_of_lt_of_eq t.isLt N_0
theorem t_eq (t : Fin cfg0.N) {i k : ℕ} (hi : t.val / 16 = i) (hk : t.val % 16 = k) : t = pt i k := Fin.ext (by
  have := t_lt t
  show t.val = (16 * i + k) % 64
  omega)

theorem wp_step {p : Prog (TpuEff nD τ sig (Elt F) Λ₀ .tc) PUnit} {c : Dev nD} {P Q Q' : sProp 𝕄}
    (h : P ⊢ wp frame (wpE (defs₀ (F := F)) 𝒱₀ (c : Thread nD τ) none) Set.univ p (fun _ => Q)) :
    iprop(P ∗ (Q -∗ Q')) ⊢ wp frame (wpE (defs₀ (F := F)) 𝒱₀ (c : Thread nD τ) none) Set.univ p (fun _ => Q') :=
  (sep_mono_left h).trans ((wp_frame_r _ _ _).trans (wp_mono _ _ _ fun _ => wand_elim_right))

/-- What a point is to do. -/
def Step (c : Dev nD) (t : Fin cfg0.N) (i k : ℕ) (l' : List Due) (P' : sProp 𝕄) : Prop :=
  iprop(Recs m ∗ levAts L lv ∗ due c (pend c i (ph k)) ∗ St m c i k ∗ staged m c t)
    ⊢ wp frame (wpE (defs₀ (F := F)) 𝒱₀ (c : Thread nD τ) none) Set.univ (bodyAt0 t) (fun _ => iprop(due c l' ∗ P' ∗ staged m c t))

theorem step_first (c : Dev nD) (t : Fin cfg0.N) {i : ℕ} (hi : t.val / 16 = i) (hk : t.val % 16 = 0) :
    Step m c t i 0 (pend c i (ph 1)) (St m c i 1) := by
  unfold Step St curA accX
  subst hi
  iintro ⟨-, -, Ho, ⟨Hsl, ⟨%X, Ha⟩, Hf, Hp⟩, Hs⟩
  iapply (wp_step (body_first m c t hk X (hp := par _)))
  isplitl [Hs Ha]
  · isplitl [Hs]; · iexact Hs
    iexact Ha
  iintro ⟨Hs, Ha⟩
  isplitl [Ho]; · iexact Ho
  isplitr [Hs]
  · isplitl [Hsl]; · iexact Hsl
    isplitl [Ha]
    · iapply (Entails.of_eq (congrArg (accO c (t.val / 16 % 2) 0 512 (par _)) (congrArg (mlp m c) (t_eq t rfl hk)))); iexact Ha
    isplitl [Hf]; · iexact Hf
    iexact Hp
  iexact Hs

theorem part_next (c : Dev nD) (t : Fin cfg0.N) {i k : ℕ} (hi : t.val / 16 = i) (hk : t.val % 16 = k + 1) :
    add (partAt m c i k) (mlp m c t) = partAt m c i (k + 1) := by
  rw [t_eq t hi hk]; rfl

theorem step_plain (c : Dev nD) (t : Fin cfg0.N) {i k : ℕ} (hi : t.val / 16 = i) (hk : t.val % 16 = k + 1)
    (h : i = 0 ∨ k + 1 ≠ 4 ∧ k + 1 ≠ 9 ∧ k + 1 ≠ 14) (h15 : k + 1 ≠ 15) :
    Step m c t i (k + 1) (pend c i (ph (k + 1 + 1))) (St m c i (k + 1 + 1)) := by
  have hk' : k < 15 := by omega
  have e : slow m c i (ph (k + 1 + 1)) = slow m c i (ph (k + 1)) ∧ pend c i (ph (k + 1 + 1)) = pend c i (ph (k + 1)) := by
    rcases h with rfl | ⟨h4, h9, h14⟩
    · exact ⟨rfl, rfl⟩
    · have : ph (k + 1 + 1) = ph (k + 1) := by unfold ph; split <;> split <;> (try split) <;> (try split) <;> (try split) <;> (try split) <;> omega
      rw [this]; exact ⟨rfl, rfl⟩
  unfold Step St
  rw [e.1, e.2]
  unfold curA
  subst hi
  iintro ⟨-, -, Ho, ⟨Hsl, Ha, Hf, Hp⟩, Hs⟩
  iapply (wp_step (body_plain m c t (by omega) (by omega) (by omega) (by omega) (by omega) (partAt m c (t.val / 16) k) (hp := par _)))
  isplitl [Hs Ha]
  · isplitl [Hs]; · iexact Hs
    iexact Ha
  rw [part_next m c t rfl hk]
  iintro ⟨Hs, Ha⟩
  isplitl [Ho]; · iexact Ho
  isplitr [Hs]
  · isplitl [Hsl]; · iexact Hsl
    isplitl [Ha]; · iexact Ha
    isplitl [Hf]; · iexact Hf
    iexact Hp
  iexact Hs

theorem step_stage0 (c : Dev nD) (t : Fin cfg0.N) {r : ℕ} (hr : r < 3) (hi : t.val / 16 = r + 1) (hk : t.val % 16 = 4) :
    Step m c t (r + 1) 4 (pend c (r + 1) (ph 5)) (St m c (r + 1) 5) := by
  unfold Step St
  show iprop(_ ∗ _ ∗ due c (hops c r 0 ++ tail c (r + 1)) ∗ (((fl (F := F) c true r 0 ∗ fl (F := F) c false r 0) ∗ accO c (r % 2) 0 512 (par r) (red m c r 0) ∗ outs m c r)
      ∗ accO c ((r + 1) % 2) 0 512 (par (r + 1)) (partAt m c (r + 1) 3) ∗ _) ∗ _) ⊢
    wp _ _ _ _ (fun _ => iprop(due c (hops c r 1 ++ tail c (r + 1)) ∗ (((fl (F := F) c true r 1 ∗ fl (F := F) c false r 1) ∗ accO c (r % 2) 0 512 (par r) (red m c r 1) ∗ outs m c r)
      ∗ accO c ((r + 1) % 2) 0 512 (par (r + 1)) (partAt m c (r + 1) 4) ∗ _) ∗ _))
  rw [← part_next m c t hi hk]
  iintro ⟨#HR, #Hlev, Ho, ⟨⟨Hfl, Hold, Hout⟩, Ha, Hf⟩, Hs⟩
  iapply (wp_step (body_stage0 m c t r hr hi hk (partAt m c (r + 1) 3) (hp := par _) (hp' := par r)))
  rw [hi]
  isplitl [Ho Hfl Hold Hs Ha]
  · isplitr; · iexact HR
    isplitr; · iexact Hlev
    isplitl [Ho]; · iexact Ho
    isplitl [Hfl]; · iexact Hfl
    isplitl [Hold]; · iexact Hold
    isplitl [Hs]; · iexact Hs
    iexact Ha
  iintro ⟨Ho, Hfl, Hold, Hs, Ha⟩
  isplitl [Ho]; · iexact Ho
  isplitr [Hs]
  · isplitl [Hfl Hold Hout]
    · isplitl [Hfl]; · iexact Hfl
      isplitl [Hold]; · iexact Hold
      iexact Hout
    isplitl [Ha]; · iexact Ha
    iexact Hf
  iexact Hs

theorem step_stage1 (c : Dev nD) (t : Fin cfg0.N) {r : ℕ} (hr : r < 3) (hi : t.val / 16 = r + 1) (hk : t.val % 16 = 9) :
    Step m c t (r + 1) 9 (pend c (r + 1) (ph 10)) (St m c (r + 1) 10) := by
  unfold Step St
  show iprop(_ ∗ _ ∗ due c (hops c r 1 ++ tail c (r + 1)) ∗ (((fl (F := F) c true r 1 ∗ fl (F := F) c false r 1) ∗ accO c (r % 2) 0 512 (par r) (red m c r 1) ∗ outs m c r)
      ∗ accO c ((r + 1) % 2) 0 512 (par (r + 1)) (partAt m c (r + 1) 8) ∗ _) ∗ _) ⊢
    wp _ _ _ _ (fun _ => iprop(due c (hops c r 2 ++ tail c (r + 1)) ∗ (((fl (F := F) c true r 2 ∗ fl (F := F) c false r 2) ∗ accO c (r % 2) 0 512 (par r) (red m c r 2) ∗ outs m c r)
      ∗ accO c ((r + 1) % 2) 0 512 (par (r + 1)) (partAt m c (r + 1) 9) ∗ _) ∗ _))
  rw [← part_next m c t hi hk]
  iintro ⟨#HR, #Hlev, Ho, ⟨⟨Hfl, Hold, Hout⟩, Ha, Hf⟩, Hs⟩
  iapply (wp_step (body_stage1 m c t r hr hi hk (partAt m c (r + 1) 8) (hp := par _) (hp' := par r)))
  rw [hi]
  isplitl [Ho Hfl Hold Hs Ha]
  · isplitr; · iexact HR
    isplitr; · iexact Hlev
    isplitl [Ho]; · iexact Ho
    isplitl [Hfl]; · iexact Hfl
    isplitl [Hold]; · iexact Hold
    isplitl [Hs]; · iexact Hs
    iexact Ha
  iintro ⟨Ho, Hfl, Hold, Hs, Ha⟩
  isplitl [Ho]; · iexact Ho
  isplitr [Hs]
  · isplitl [Hfl Hold Hout]
    · isplitl [Hfl]; · iexact Hfl
      isplitl [Hold]; · iexact Hold
      iexact Hout
    isplitl [Ha]; · iexact Ha
    iexact Hf
  iexact Hs

theorem step_stage2 (c : Dev nD) (t : Fin cfg0.N) {r : ℕ} (hr : r < 3) (hi : t.val / 16 = r + 1) (hk : t.val % 16 = 14) :
    Step m c t (r + 1) 14 (pend c (r + 1) (ph 15)) (St m c (r + 1) 15) := by
  unfold Step St
  show iprop(_ ∗ _ ∗ due c (hops c r 2 ++ tail c (r + 1)) ∗ (((fl (F := F) c true r 2 ∗ fl (F := F) c false r 2) ∗ accO c (r % 2) 0 512 (par r) (red m c r 2) ∗ outs m c r)
      ∗ accO c ((r + 1) % 2) 0 512 (par (r + 1)) (partAt m c (r + 1) 13) ∗ _) ∗ _) ⊢
    wp _ _ _ _ (fun _ => iprop(due c (hops c r 3 ++ tail c (r + 1)) ∗ (((fl (F := F) c true r 3 ∗ fl (F := F) c false r 3) ∗ accX (F := F) c r ∗ outs m c (r + 1))
      ∗ accO c ((r + 1) % 2) 0 512 (par (r + 1)) (partAt m c (r + 1) 14) ∗ _) ∗ _))
  rw [← part_next m c t hi hk]
  iintro ⟨#HR, #Hlev, Ho, ⟨⟨Hfl, Hold, Hout⟩, Ha, Hf⟩, Hs⟩
  iapply (wp_step (body_stage2 m c t r hr hi hk (partAt m c (r + 1) 13) (hp := par _) (hp' := par r)))
  rw [hi]
  isplitl [Ho Hfl Hold Hout Hs Ha]
  · isplitr; · iexact HR
    isplitr; · iexact Hlev
    isplitl [Ho]; · iexact Ho
    isplitl [Hfl]; · iexact Hfl
    isplitl [Hold]; · iexact Hold
    isplitl [Hout]; · iexact Hout
    isplitl [Hs]; · iexact Hs
    iexact Ha
  iintro ⟨Ho, Hfl, Hold, Hout, Hs, Ha⟩
  isplitl [Ho]; · iexact Ho
  isplitr [Hs]
  · isplitl [Hfl Hold Hout]
    · isplitl [Hfl]; · iexact Hfl
      isplitl [Hold]
      · unfold accX; iexists _; iexact Hold
      iexact Hout
    isplitl [Ha]; · iexact Ha
    iexact Hf
  iexact Hs

theorem pend_end (c : Dev nD) (i : ℕ) : pend c i 3 = tail c i := by cases i <;> rfl
theorem slow_end (c : Dev nD) (i : ℕ) : slow m c i 3 ⊢ iprop((idle (F := F) c true i ∗ idle (F := F) c false i) ∗ accX (F := F) c (i + 1) ∗ outs m c i) := by
  cases i with
  | zero => exact .rfl
  | succ r =>
    show iprop(_ ∗ accX (F := F) c r ∗ outs m c (r + 1)) ⊢ _
    rw [show accX (F := F) c (r + 1 + 1) = accX (F := F) c r from by unfold accX; simp only [show (r + 1 + 1) % 2 = r % 2 by omega]]
    exact .rfl

theorem step_begin (c : Dev nD) (t : Fin cfg0.N) {i : ℕ} (hr : i < 3) (hi : t.val / 16 = i) (hk : t.val % 16 = 15) :
    Step m c t i 15 (pend c (i + 1) (ph 0)) (St m c (i + 1) 0) := by
  unfold Step St
  show iprop(_ ∗ _ ∗ due c (pend c i 3) ∗ (slow m c i 3 ∗ accO c (i % 2) 0 512 (par i) (partAt m c i 14) ∗ _ ∗ _) ∗ _) ⊢
    wp _ _ _ _ (fun _ => iprop(due c (hops c i 0 ++ tail c (i + 1)) ∗ (((fl (F := F) c true i 0 ∗ fl (F := F) c false i 0) ∗ accO c (i % 2) 0 512 (par i) (red m c i 0) ∗ outs m c i)
      ∗ accX (F := F) c (i + 1) ∗ _ ∗ _) ∗ _))
  rw [pend_end]
  iintro ⟨#HR, #Hlev, Ho, ⟨Hsl, Ha, Hf, Hp⟩, Hs⟩
  ihave Hsl := (slow_end m c i) $$ Hsl
  icases Hsl with ⟨Hid, Hold, Hout⟩
  ihave Hf := (fut_next c i hr) $$ Hf
  icases Hf with ⟨Htk, Hf⟩
  iapply (wp_step (body_begin m c t i hr hi hk (partAt m c i 14) (part_next m c t hi hk) (hp := par _) (hp' := par i)))
  rw [hi]
  isplitl [Ho Hid Htk Hp Hs Ha]
  · isplitr; · iexact HR
    isplitr; · iexact Hlev
    isplitl [Ho]; · iexact Ho
    isplitl [Hid]; · iexact Hid
    isplitl [Htk]; · iexact Htk
    isplitl [Hp]; · iexact Hp
    isplitl [Hs]; · iexact Hs
    iexact Ha
  iintro ⟨Ho, Hfl, Hp, Hs, Ha⟩
  isplitl [Ho]; · iexact Ho
  isplitr [Hs]
  · isplitl [Hfl Ha Hout]
    · isplitl [Hfl]; · iexact Hfl
      isplitl [Ha]; · iexact Ha
      iexact Hout
    isplitl [Hold]; · iexact Hold
    isplitl [Hf]; · iexact Hf
    iexact Hp
  iexact Hs

/-! ## The end of the last point -/

/-- Something said of every cell of one direction. -/
def dirK (Φ : CK → sProp 𝕄) (d : Bool) : sProp 𝕄 :=
  iprop(((Φ (kSnd d 0 0) ∗ Φ (kRcv d 0 0)) ∗ Φ (kSnd d 0 1) ∗ Φ (kRcv d 0 1))
    ∗ ((Φ (kSnd d 1 0) ∗ Φ (kRcv d 1 0)) ∗ Φ (kSnd d 1 1) ∗ Φ (kRcv d 1 1))
    ∗ (Φ (kSnd d 2 0) ∗ Φ (kRcv d 2 0)) ∗ Φ (kSnd d 2 1) ∗ Φ (kRcv d 2 1))

omit [FloatOps F] in
theorem sep_regroup (P Q R : sProp 𝕄) : iprop((P ∗ Q) ∗ R) = iprop(P ∗ Q ∗ R) := BI.Entails.antisymm BI.sep_assoc BI.sep_assoc'
omit [FloatOps F] in
theorem cells_eq (Φ : CK → sProp 𝕄) : bigSep Finset.univ Φ = iprop(Φ kBar ∗ Φ kOut ∗ dirK Φ true ∗ dirK Φ false) := by
  rw [bigSep_univ_eq_bigSepL
    [kBar, kOut, kSnd true 0 0, kRcv true 0 0, kSnd true 0 1, kRcv true 0 1, kSnd true 1 0, kRcv true 1 0, kSnd true 1 1, kRcv true 1 1,
      kSnd true 2 0, kRcv true 2 0, kSnd true 2 1, kRcv true 2 1, kSnd false 0 0, kRcv false 0 0, kSnd false 0 1, kRcv false 0 1,
      kSnd false 1 0, kRcv false 1 0, kSnd false 1 1, kRcv false 1 1, kSnd false 2 0, kRcv false 2 0, kSnd false 2 1, kRcv false 2 1]
    (by decide +kernel) (by decide +kernel)]
  simp only [bigSepL_cons_cons, bigSepL_singleton, dirK, sep_regroup]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_all (c : Dev nD) :
    iprop(Recs m ∗ bigSep Finset.univ fun k : CK => pos (F := F) c k (nrK k)) ⊢ iprop(|={Set.univ}=> bigSep Finset.univ fun k : CK => semVal (cell c k) 0) :=
  (with_persistent fun k _ => close m c k (nrK k) (le_refl _)).trans (bigSep_fupd _ _)

theorem dirK_pos (c : Dev nD) (d : Bool) : dirK (fun k => pos (F := F) c k (nrK k)) d
    = iprop((at2 (F := F) c d 0 0 4 ∗ at2 (F := F) c d 0 1 1) ∗ (at2 (F := F) c d 1 0 4 ∗ at2 (F := F) c d 1 1 1) ∗ at2 (F := F) c d 2 0 4 ∗ at2 (F := F) c d 2 1 1) := by
  have h0 : nr 0 = 4 := rfl
  have h1 : nr 1 = 1 := rfl
  unfold dirK at2
  simp only [nrK, h0, h1]

theorem ending (c : Dev nD) :
    iprop(Recs m ∗ (over (F := F) c true ∗ over (F := F) c false) ∗ pos c kBar 4 ∗ outs m c 4 ∗ accX (F := F) c 0 ∗ accX (F := F) c 1)
      ⊢ iprop(|={Set.univ}=> Fin1 m c) := by
  unfold over outs tileO Fin1
  simp only [Nat.reduceLT, ↓reduceIte]
  iintro ⟨#HR, ⟨⟨Hu, Us⟩, Hd, Ds⟩, Hb, ⟨Ho, Os⟩, Ha⟩
  imod (close_all m c) $$ [Hu Hd Hb Ho] with Hz
  · isplitr; · iexact HR
    rw [cells_eq]
    isplitl [Hb]; · iexact Hb
    isplitl [Ho]; · iexact Ho
    rw [dirK_pos, dirK_pos]
    isplitl [Hu]; · iexact Hu
    iexact Hd
  imodintro
  isplitl [Hz]; · iexact Hz
  isplitl [Us Ds]
  · isplitl [Us]; · iexact Us
    iexact Ds
  isplitl [Ha]; · iexact Ha
  iexact Os

theorem step_end (c : Dev nD) (t : Fin cfg0.N) (hi : t.val / 16 = 3) (hk : t.val % 16 = 15) :
    Step m c t 3 15 [] (Fin1 m c) := by
  unfold Step St
  show iprop(_ ∗ _ ∗ due c (tail c 3) ∗ (slow m c 3 3 ∗ accO c 1 0 512 (par 3) (partAt m c 3 14) ∗ _ ∗ _) ∗ _) ⊢ _
  refine BIBase.Entails.trans ?_ (wp_fupd _ _ _ _ _)
  iintro ⟨#HR, #Hlev, Ho, ⟨Hsl, Ha, Hf, Hp⟩, Hs⟩
  ihave Hsl := (slow_end m c 3) $$ Hsl
  icases Hsl with ⟨Hid, Hold, Hout⟩
  ihave Hf := (show fut (F := F) c 3 ⊢ iprop(toks (F := F) c 3 ∗ toksL (F := F) c true ∗ toksL (F := F) c false) from .rfl) $$ Hf
  iapply (wp_step (body_end m c t hi hk (partAt m c 3 14) (part_next m c t hi hk) (hp := par 3)))
  isplitl [Ho Hid Hf Hp Hout Hs Ha]
  · isplitr; · iexact HR
    isplitr; · iexact Hlev
    isplitl [Ho]; · iexact Ho
    isplitl [Hid]; · iexact Hid
    isplitl [Hf]; · iexact Hf
    isplitl [Hp]; · iexact Hp
    isplitl [Hout]; · iexact Hout
    isplitl [Hs]; · iexact Hs
    iexact Ha
  iintro ⟨Ho, Hov, Hp, Hout, Hs, Ha⟩
  imod (ending m c) $$ [Hov Hp Hout Hold Ha] with Hz
  · isplitr; · iexact HR
    isplitl [Hov]; · iexact Hov
    isplitl [Hp]; · iexact Hp
    isplitl [Hout]; · iexact Hout
    isplitl [Hold]; · iexact Hold
    unfold accX; iexists _; iexact Ha
  imodintro
  isplitl [Ho]; · iexact Ho
  isplitl [Hz]; · iexact Hz
  iexact Hs

/-! ## Any point -/

theorem to_next {c : Dev nD} {t : Fin cfg0.N} {i k i' k' : ℕ} (h : Step m c t i k (pend c i' (ph k')) (St m c i' k'))
    (hn : t.val + 1 < 64) (hi : (t.val + 1) / 16 = i') (hk : (t.val + 1) % 16 = k') :
    iprop(Recs m ∗ levAts L lv ∗ due c (pend c i (ph k)) ∗ St m c i k ∗ staged m c t)
      ⊢ wp frame (wpE (defs₀ (F := F)) 𝒱₀ (c : Thread nD τ) none) Set.univ (bodyAt0 t)
        (fun _ => iprop(due c (oweN c (t.val + 1)) ∗ PhiN m c (t.val + 1) ∗ staged m c t)) := by
  rw [PhiN_at m c hn hi hk, oweN_at c hn hi hk]
  iintro ⟨#HR, #Hlev, H⟩
  iapply (wp_step h)
  isplitl [H]
  · isplitr; · iexact HR
    isplitr; · iexact Hlev
    iexact H
  iintro ⟨Ho, HS, Hs⟩
  isplitl [Ho]; · iexact Ho
  isplitl [HS]
  · isplitr; · iexact HR
    isplitr; · iexact Hlev
    iexact HS
  iexact Hs

theorem step_any (c : Dev nD) (t : Fin cfg0.N) (i k : ℕ) (hi : t.val / 16 = i) (hk : t.val % 16 = k) :
    iprop(Recs m ∗ levAts L lv ∗ due c (pend c i (ph k)) ∗ St m c i k ∗ staged m c t)
      ⊢ wp frame (wpE (defs₀ (F := F)) 𝒱₀ (c : Thread nD τ) none) Set.univ (bodyAt0 t)
        (fun _ => iprop(due c (oweN c (t.val + 1)) ∗ PhiN m c (t.val + 1) ∗ staged m c t)) := by
  have h64 := t_lt t
  by_cases h15 : k = 15
  · subst h15
    by_cases h3 : i = 3
    · subst h3
      rw [show t.val + 1 = 64 by omega]
      exact step_end m c t hi hk
    · exact to_next m (step_begin m c t (by omega) hi hk) (by omega) (by omega) (by omega)
  by_cases h0 : k = 0
  · subst h0
    exact to_next m (step_first m c t hi hk) (by omega) (by omega) (by omega)
  obtain ⟨k, rfl⟩ : ∃ k', k = k' + 1 := ⟨k - 1, by omega⟩
  by_cases hp : i = 0 ∨ k + 1 ≠ 4 ∧ k + 1 ≠ 9 ∧ k + 1 ≠ 14
  · exact to_next m (step_plain m c t hi hk hp h15) (by omega) (by omega) (by omega)
  obtain ⟨r, rfl⟩ : ∃ r, i = r + 1 := ⟨i - 1, by omega⟩
  have hk3 : k = 3 ∨ k = 8 ∨ k = 13 := by omega
  rcases hk3 with rfl | rfl | rfl
  · exact to_next m (step_stage0 m c t (by omega) hi hk) (by omega) (by omega) (by omega)
  · exact to_next m (step_stage1 m c t (by omega) hi hk) (by omega) (by omega) (by omega)
  · exact to_next m (step_stage2 m c t (by omega) hi hk) (by omega) (by omega) (by omega)

/-- Every point takes the state before it to the state after it. -/
theorem step (c : Dev nD) (t : Fin cfg0.N) :
    iprop(PhiN m c t.val ∗ due c (oweN c t.val) ∗ staged m c t)
      ⊢ wp frame (wpE (defs₀ (F := F)) 𝒱₀ (c : Thread nD τ) none) Set.univ (bodyAt0 t)
        (fun _ => iprop(due c (oweN c (t.val + 1)) ∗ PhiN m c (t.val + 1) ∗ staged m c t)) := by
  have h := step_any m c t _ _ rfl rfl
  rw [PhiN_at m c (t_lt t) rfl rfl, oweN_at c (t_lt t) rfl rfl]
  iintro ⟨⟨#HR, #Hlev, HS⟩, Ho, Hs⟩
  iapply h
  isplitr; · iexact HR
  isplitr; · iexact Hlev
  isplitl [Ho]; · iexact Ho
  isplitl [HS]; · iexact HS
  iexact Hs

end Cert.K

end
-- ==== Proof.Deal.lean ====
/-
The duty tokens and the credits at launch, dealt to the devices that use them.
-/
module

public import proofs.«01_k».proof.Proof.Steady
public import Idealize.ShloMosaic.Lib.Pipeline.BigSepL

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Picking elements out -/

theorem pick {I : Type} [Fintype I] [DecidableEq I] (l : List I) (hl : l.Nodup) (Φ : I → sProp 𝕄) : bigSep Finset.univ Φ ⊢ bigSepL l Φ :=
  (BI.bigSep_subset (Finset.subset_univ l.toFinset)).trans (Entails.of_eq (bigSep_eq_bigSepL_of_eq l rfl hl Φ))

/-! ## Duty tokens -/

/-- A duty: which cell, which round, which of the two names. -/
abbrev Dut : Type := CK × Fin 4 × Bool
/-- Whose cell's duty a device pays. -/
def whose : Dut → (Dev nD ≃ Dev nD)
  | (none, _, b) => (ringD b).symm
  | (some (some (false, d, _, _)), _, _) => ringD d
  | _ => Equiv.refl _

theorem cell_inj : Function.Injective (fun x : Dev nD × CK => cell x.1 x.2) := by
  rintro ⟨c, k⟩ ⟨c', k'⟩ h
  have h1 : c = c' := congrArg (fun g : GSem nD τ sig => g.1.1) h
  have h2 : k = k' := semOf_inj (congrArg (fun g : GSem nD τ sig => g.2) h)
  rw [h1, h2]
theorem dut_inj : Function.Injective (fun x : Dev nD × Dut => ((cell x.1 x.2.1, x.2.2.1.val, x.2.2.2) : GSem nD τ sig × ℕ × Bool)) := by
  rintro ⟨c, k, r, b⟩ ⟨c', k', r', b'⟩ h
  have h1 := cell_inj (a₁ := (c, k)) (a₂ := (c', k')) (congrArg (fun x : GSem nD τ sig × ℕ × Bool => x.1) h)
  have h2 : r.val = r'.val := congrArg (fun x : GSem nD τ sig × ℕ × Bool => x.2.1) h
  have h3 : b = b' := congrArg (fun x : GSem nD τ sig × ℕ × Bool => x.2.2) h
  obtain ⟨rfl, rfl⟩ := Prod.mk.inj h1
  obtain rfl := Fin.ext h2
  subst h3; rfl

def ringCells : Finset (GSem nD τ sig) := Finset.univ.map ⟨_, cell_inj⟩
def ringToks : Finset (GSem nD τ sig × ℕ × Bool) := Finset.univ.map ⟨_, dut_inj⟩

/-- The tokens of a device's own cells, -/
def ownD (c : Dev nD) : sProp 𝕄 := bigSep Finset.univ fun x : Dut => dutyTok ER (cell c x.1) x.2.1.val x.2.2
/-- and those of the duties it pays. -/
def payD (c : Dev nD) : sProp 𝕄 := bigSep Finset.univ fun x : Dut => dutyTok ER (cell (whose x c) x.1) x.2.1.val x.2.2

theorem deal : (bigSep Finset.univ fun c : Dev nD => ownD (F := F) c) ⊢ bigSep Finset.univ fun c : Dev nD => payD (F := F) c := by
  unfold ownD payD
  rw [BI.bigSep_univ_comm, BI.bigSep_univ_comm (fun (c : Dev nD) (x : Dut) => (dutyTok ER (cell (whose x c) x.1) x.2.1.val x.2.2 : sProp 𝕄))]
  exact bigSep_mono fun x _ => Entails.of_eq (BI.bigSep_univ_equiv (whose x) fun c => (dutyTok ER (cell c x.1) x.2.1.val x.2.2 : sProp 𝕄))

/-- The duties of one hop; of one direction of a tile; of a tile; of the last tile's second pieces. -/
def hopD (d : Bool) (s : Fin 3) (j : Fin 2) (r : Fin 4) : List Dut := [(kSnd d s j, r, false), (kRcv d s j, r, false)]
def dirD (d : Bool) (j : Fin 2) (r : Fin 4) : List Dut := hopD d 0 j r ++ (hopD d 1 j r ++ hopD d 2 j r)
def tileD (r : Fin 4) : List Dut := [(kBar, r, true), (kBar, r, false)] ++ (dirD true 0 r ++ dirD false 0 r)
def outD : List Dut := [(kOut, 0, false), (kOut, 1, false), (kOut, 2, false), (kOut, 3, false)]
def allD : List Dut := tileD 0 ++ (tileD 1 ++ (tileD 2 ++ (tileD 3 ++ (dirD true 1 0 ++ (dirD false 1 0 ++ outD)))))

theorem allD_nodup : allD.Nodup := by decide +kernel

/-- A hop's two duty tokens. -/
def hopK (c : Dev nD) (d : Bool) (s : Fin 3) (j : Fin 2) (r : ℕ) : sProp 𝕄 :=
  iprop(dutyTok ER (cell c (kSnd d s j)) r false ∗ dutyTok ER (cell (tgt d c) (kRcv d s j)) r false)
def tileK (c : Dev nD) (r : ℕ) : sProp 𝕄 :=
  iprop((dutyTok ER (cell (src true c) kBar) r true ∗ dutyTok ER (cell (src false c) kBar) r false)
    ∗ (hopK (F := F) c true 0 0 r ∗ hopK (F := F) c true 1 0 r ∗ hopK (F := F) c true 2 0 r)
    ∗ hopK (F := F) c false 0 0 r ∗ hopK (F := F) c false 1 0 r ∗ hopK (F := F) c false 2 0 r)

theorem payD_all (c : Dev nD) : payD (F := F) c ⊢ iprop(tileK (F := F) c 0 ∗ tileK (F := F) c 1 ∗ tileK (F := F) c 2 ∗ tileK (F := F) c 3
    ∗ (hopK (F := F) c true 0 1 0 ∗ hopK (F := F) c true 1 1 0 ∗ hopK (F := F) c true 2 1 0)
    ∗ (hopK (F := F) c false 0 1 0 ∗ hopK (F := F) c false 1 1 0 ∗ hopK (F := F) c false 2 1 0)
    ∗ dutyTok ER (cell c kOut) 0 false ∗ dutyTok ER (cell c kOut) 1 false ∗ dutyTok ER (cell c kOut) 2 false ∗ dutyTok ER (cell c kOut) 3 false) := by
  refine (pick allD allD_nodup _).trans (Entails.of_eq ?_)
  simp only [allD, tileD, dirD, hopD, outD, bigSepL_append]
  rfl

/-! ## Credits -/

theorem cell_eq_iff {a b : Dev nD} {k : CK} : cell a k = cell b k ↔ a = b :=
  ⟨fun h => congrArg (fun g : GSem nD τ sig => g.1.1) h, fun h => h ▸ rfl⟩

/-- If every device owes one other's cell, each device's cell is owed that. -/
theorem owed_one (e : Dev nD ≃ Dev nD) (k : CK) (i n : ℕ) (c : Dev nD) :
    (Pipeline.launchCred (fun d => tallyAt (cell (e d) k) i n) c : sProp 𝕄) ⊢ cred (tallyAt (cell c k) i n) := by
  refine (Pipeline.launchCred_elim _ c (semOf k)).trans (Entails.of_eq (congrArg cred ?_))
  rw [show (tallyAt (cell c k) i n : CellTallies nD τ sig ℕ) = tallyOn (cell c k) (Finsupp.single i n) from rfl]
  refine congrArg _ (Finsupp.ext fun u => ?_)
  rw [Pipeline.launchCredit_owing, Finset.sum_eq_single (e.symm c)]
  · rw [tallyAt_apply, Equiv.apply_symm_apply, Finsupp.single_apply]
    by_cases h : i = u
    · rw [if_pos ⟨rfl, h.symm⟩, if_pos h]
    · rw [if_neg (fun h' => h h'.2.symm), if_neg h]
  · intro d _ hd
    rw [tallyAt_apply, if_neg]
    rintro ⟨h, -⟩
    exact hd (by rw [show c = e d from cell_eq_iff.mp h, Equiv.symm_apply_apply])
  · intro h; exact absurd (Finset.mem_univ _) h

theorem owed_cons (e : Dev nD ≃ Dev nD) (k : CK) (i n : ℕ) (l : Dev nD → List Due) (c : Dev nD) :
    (Pipeline.launchCred (fun d => owe (((e d, k), i, n) :: l d)) c : sProp 𝕄)
      ⊢ iprop(cred (tallyAt (cell c k) i n) ∗ Pipeline.launchCred (fun d => owe (l d)) c) := by
  show (Pipeline.launchCred (fun d => owe (l d) + tallyAt (cell (e d) k) i n) c : sProp 𝕄) ⊢ _
  rw [Pipeline.launchCred_add]
  iintro ⟨Hl, H1⟩
  isplitl [H1]
  · iapply (owed_one e k i n c); iexact H1
  iexact Hl

theorem owed_sig (i : ℕ) (l : Dev nD → List Due) (c : Dev nD) :
    (Pipeline.launchCred (fun d => owe (sigDue d i true :: sigDue d i false :: l d)) c : sProp 𝕄)
      ⊢ iprop(cred (tallyAt (cell c kBar) i 2) ∗ Pipeline.launchCred (fun d => owe (l d)) c) := by
  refine BIBase.Entails.trans (owed_cons (F := F) (ringD true).symm kBar i 1 (fun d => (((ringD false).symm d, kBar), i, 1) :: l d) c) ?_
  iintro ⟨H1, H⟩
  ihave H := (owed_cons (F := F) (ringD false).symm kBar i 1 l c) $$ H
  icases H with ⟨H2, H⟩
  isplitl [H1 H2]
  · rw [show (2 : ℕ) = 1 + 1 from rfl, ← tallyAt_add]
    iapply (cred_add _ _).2
    isplitl [H1]; · iexact H1
    iexact H2
  iexact H

/-- A hop's credit. -/
def hopC (c : Dev nD) (d : Bool) (s : Fin 3) (j : Fin 2) (r : ℕ) : sProp 𝕄 := cred (tallyAt (cell c (kRcv d s j)) (tl j r) (cr (ln j r)))

theorem owed_hop (r : ℕ) (d : Bool) (s : Fin 3) (j : Fin 2) (l : Dev nD → List Due) (c : Dev nD) :
    (Pipeline.launchCred (fun d' => owe (hopDue d' r d s j :: l d')) c : sProp 𝕄)
      ⊢ iprop(hopC (F := F) c d s j r ∗ Pipeline.launchCred (fun d => owe (l d)) c) :=
  owed_cons (ringD d) (kRcv d s j) (tl j r) (cr (ln j r)) l c

/-- A tile's credits. -/
def tileC (c : Dev nD) (r : ℕ) : sProp 𝕄 :=
  iprop(cred (tallyAt (cell c kBar) r 2) ∗ (hopC (F := F) c true 0 0 r ∗ hopC (F := F) c true 1 0 r ∗ hopC (F := F) c true 2 0 r)
    ∗ hopC (F := F) c false 0 0 r ∗ hopC (F := F) c false 1 0 r ∗ hopC (F := F) c false 2 0 r)

theorem owed_tile (r : ℕ) (l : Dev nD → List Due) (c : Dev nD) :
    (Pipeline.launchCred (fun d => owe (dueT d r ++ l d)) c : sProp 𝕄) ⊢ iprop(tileC (F := F) c r ∗ Pipeline.launchCred (fun d => owe (l d)) c) := by
  refine BIBase.Entails.trans (owed_sig (F := F) r (fun d => hopDue d r true 0 0 :: hopDue d r false 0 0 :: hopDue d r true 1 0 :: hopDue d r false 1 0 :: hopDue d r true 2 0 :: hopDue d r false 2 0 :: l d) c) ?_
  iintro ⟨Hb, H⟩
  ihave H := (owed_hop (F := F) r true 0 0 (fun d => hopDue d r false 0 0 :: hopDue d r true 1 0 :: hopDue d r false 1 0 :: hopDue d r true 2 0 :: hopDue d r false 2 0 :: l d) c) $$ H
  icases H with ⟨Hu0, H⟩
  ihave H := (owed_hop (F := F) r false 0 0 (fun d => hopDue d r true 1 0 :: hopDue d r false 1 0 :: hopDue d r true 2 0 :: hopDue d r false 2 0 :: l d) c) $$ H
  icases H with ⟨Hd0, H⟩
  ihave H := (owed_hop (F := F) r true 1 0 (fun d => hopDue d r false 1 0 :: hopDue d r true 2 0 :: hopDue d r false 2 0 :: l d) c) $$ H
  icases H with ⟨Hu1, H⟩
  ihave H := (owed_hop (F := F) r false 1 0 (fun d => hopDue d r true 2 0 :: hopDue d r false 2 0 :: l d) c) $$ H
  icases H with ⟨Hd1, H⟩
  ihave H := (owed_hop (F := F) r true 2 0 (fun d => hopDue d r false 2 0 :: l d) c) $$ H
  icases H with ⟨Hu2, H⟩
  ihave H := (owed_hop (F := F) r false 2 0 l c) $$ H
  icases H with ⟨Hd2, H⟩
  unfold tileC
  isplitr [H]
  · isplitl [Hb]; · iexact Hb
    isplitl [Hu0 Hu1 Hu2]
    · isplitl [Hu0]; · iexact Hu0
      isplitl [Hu1]; · iexact Hu1
      iexact Hu2
    isplitl [Hd0]; · iexact Hd0
    isplitl [Hd1]; · iexact Hd1
    iexact Hd2
  iexact H

/-- One hop of the last tile, both directions and both pieces. -/
theorem owed_pair (s : Fin 3) (l : Dev nD → List Due) (c : Dev nD) :
    (Pipeline.launchCred (fun d => owe (hopPair d s ++ l d)) c : sProp 𝕄)
      ⊢ iprop((hopC (F := F) c true s 0 3 ∗ hopC (F := F) c false s 0 3 ∗ hopC (F := F) c true s 1 0 ∗ hopC (F := F) c false s 1 0)
        ∗ Pipeline.launchCred (fun d => owe (l d)) c) := by
  refine BIBase.Entails.trans (owed_hop (F := F) 3 true s 0 (fun d => hopDue d 3 false s 0 :: hopDue d 0 true s 1 :: hopDue d 0 false s 1 :: l d) c) ?_
  iintro ⟨H0, H⟩
  ihave H := (owed_hop (F := F) 3 false s 0 (fun d => hopDue d 0 true s 1 :: hopDue d 0 false s 1 :: l d) c) $$ H
  icases H with ⟨H1, H⟩
  ihave H := (owed_hop (F := F) 0 true s 1 (fun d => hopDue d 0 false s 1 :: l d) c) $$ H
  icases H with ⟨H2, H⟩
  ihave H := (owed_hop (F := F) 0 false s 1 l c) $$ H
  icases H with ⟨H3, H⟩
  isplitr [H]
  · isplitl [H0]; · iexact H0
    isplitl [H1]; · iexact H1
    isplitl [H2]; · iexact H2
    iexact H3
  iexact H

theorem owed_last (c : Dev nD) :
    (Pipeline.launchCred (fun d => owe (dueLast d)) c : sProp 𝕄) ⊢ iprop(tileC (F := F) c 3
      ∗ (hopC (F := F) c true 0 1 0 ∗ hopC (F := F) c true 1 1 0 ∗ hopC (F := F) c true 2 1 0)
      ∗ hopC (F := F) c false 0 1 0 ∗ hopC (F := F) c false 1 1 0 ∗ hopC (F := F) c false 2 1 0) := by
  have e (d : Dev nD) : dueLast d = sigDue d 3 true :: sigDue d 3 false :: (hopPair d 0 ++ (hopPair d 1 ++ (hopPair d 2 ++ []))) := by
    rw [List.append_nil]; rfl
  simp only [e]
  refine BIBase.Entails.trans (owed_sig (F := F) 3 (fun d => hopPair d 0 ++ (hopPair d 1 ++ (hopPair d 2 ++ []))) c) ?_
  iintro ⟨Hb, H⟩
  ihave H := (owed_pair (F := F) 0 (fun d => hopPair d 1 ++ (hopPair d 2 ++ [])) c) $$ H
  icases H with ⟨⟨Hu0, Hd0, Lu0, Ld0⟩, H⟩
  ihave H := (owed_pair (F := F) 1 (fun d => hopPair d 2 ++ []) c) $$ H
  icases H with ⟨⟨Hu1, Hd1, Lu1, Ld1⟩, H⟩
  ihave H := (owed_pair (F := F) 2 (fun _ => []) c) $$ H
  icases H with ⟨⟨Hu2, Hd2, Lu2, Ld2⟩, -⟩
  unfold tileC
  isplitl [Hb Hu0 Hu1 Hu2 Hd0 Hd1 Hd2]
  · isplitl [Hb]; · iexact Hb
    isplitl [Hu0 Hu1 Hu2]
    · isplitl [Hu0]; · iexact Hu0
      isplitl [Hu1]; · iexact Hu1
      iexact Hu2
    isplitl [Hd0]; · iexact Hd0
    isplitl [Hd1]; · iexact Hd1
    iexact Hd2
  isplitl [Lu0 Lu1 Lu2]
  · isplitl [Lu0]; · iexact Lu0
    isplitl [Lu1]; · iexact Lu1
    iexact Lu2
  isplitl [Ld0]; · iexact Ld0
  isplitl [Ld1]; · iexact Ld1
  iexact Ld2

theorem owed_all (c : Dev nD) :
    (Pipeline.launchCred (fun d => owe (tail d 0)) c : sProp 𝕄) ⊢ iprop(tileC (F := F) c 0 ∗ tileC (F := F) c 1 ∗ tileC (F := F) c 2 ∗ tileC (F := F) c 3
      ∗ (hopC (F := F) c true 0 1 0 ∗ hopC (F := F) c true 1 1 0 ∗ hopC (F := F) c true 2 1 0)
      ∗ hopC (F := F) c false 0 1 0 ∗ hopC (F := F) c false 1 1 0 ∗ hopC (F := F) c false 2 1 0) := by
  refine BIBase.Entails.trans (owed_tile (F := F) 0 (fun d => dueT d 1 ++ (dueT d 2 ++ dueLast d)) c) ?_
  iintro ⟨H0, H⟩
  ihave H := (owed_tile (F := F) 1 (fun d => dueT d 2 ++ dueLast d) c) $$ H
  icases H with ⟨H1, H⟩
  ihave H := (owed_tile (F := F) 2 (fun d => dueLast d) c) $$ H
  icases H with ⟨H2, H⟩
  ihave H := (owed_last (F := F) c) $$ H
  isplitl [H0]; · iexact H0
  isplitl [H1]; · iexact H1
  isplitl [H2]; · iexact H2
  iexact H

/-! ## Together -/

theorem tok_mk (c : Dev nD) (d : Bool) (s : Fin 3) (j : Fin 2) (r : ℕ) : iprop(hopK (F := F) c d s j r ∗ hopC (F := F) c d s j r) ⊢ tok (F := F) c d s j r := by
  unfold hopK hopC tok
  iintro ⟨⟨H0, H1⟩, H2⟩
  isplitl [H0]; · iexact H0
  isplitl [H1]; · iexact H1
  iexact H2
theorem tok3_mk (c : Dev nD) (d : Bool) (j : Fin 2) (r : ℕ) :
    iprop((hopK (F := F) c d 0 j r ∗ hopK (F := F) c d 1 j r ∗ hopK (F := F) c d 2 j r) ∗ hopC (F := F) c d 0 j r ∗ hopC (F := F) c d 1 j r ∗ hopC (F := F) c d 2 j r)
      ⊢ iprop(tok (F := F) c d 0 j r ∗ tok (F := F) c d 1 j r ∗ tok (F := F) c d 2 j r) := by
  iintro ⟨⟨H0, H1, H2⟩, K0, K1, K2⟩
  isplitl [H0 K0]
  · iapply (tok_mk c d 0 j r); isplitl [H0]; · iexact H0
    iexact K0
  isplitl [H1 K1]
  · iapply (tok_mk c d 1 j r); isplitl [H1]; · iexact H1
    iexact K1
  iapply (tok_mk c d 2 j r); isplitl [H2]; · iexact H2
  iexact K2

theorem toks_mk (c : Dev nD) (r : ℕ) : iprop(tileK (F := F) c r ∗ tileC (F := F) c r) ⊢ toks (F := F) c r := by
  unfold tileK tileC toks
  iintro ⟨⟨⟨B0, B1⟩, U, D⟩, B2, U', D'⟩
  isplitl [B0 B1 B2]
  · isplitl [B0]; · iexact B0
    isplitl [B1]; · iexact B1
    iexact B2
  isplitl [U U']
  · iapply (tok3_mk c true 0 r); isplitl [U]; · iexact U
    iexact U'
  iapply (tok3_mk c false 0 r); isplitl [D]; · iexact D
  iexact D'

theorem toksL_mk (c : Dev nD) (d : Bool) :
    iprop(((hopK (F := F) c d 0 1 0 ∗ hopK (F := F) c d 1 1 0 ∗ hopK (F := F) c d 2 1 0) ∗ hopC (F := F) c d 0 1 0 ∗ hopC (F := F) c d 1 1 0 ∗ hopC (F := F) c d 2 1 0)
        ∗ at2 (F := F) c d 0 1 0 ∗ at2 (F := F) c d 1 1 0 ∗ at2 (F := F) c d 2 1 0) ⊢ toksL (F := F) c d := by
  unfold toksL
  iintro ⟨HK, A0, A1, A2⟩
  ihave H := (tok3_mk c d 1 0) $$ HK
  icases H with ⟨T0, T1, T2⟩
  isplitl [T0 A0]
  · isplitl [T0]; · iexact T0
    iexact A0
  isplitl [T1 A1]
  · isplitl [T1]; · iexact T1
    iexact A1
  isplitl [T2]; · iexact T2
  iexact A2

end Cert.K

end
-- ==== Proof.Ends.lean ====
/-
The scratch buffers and the result at the beginning and the end: whole buffers as the regions the kernel works on.
-/
module

public import proofs.«01_k».proof.Proof.Steady

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The scratch buffers are their planes -/

section Planes
variable {sp : Space} {A H : ℕ} (b : Memref sig .tc sp (Sh3 A H) .bf16)

theorem plane_ok {A H : ℕ} (s : Fin A) : s.val < A ∧ 0 + H ≤ H := ⟨s.isLt, by omega⟩
/-- One plane of a buffer. -/
abbrev plane (s : Fin A) : Memref sig .tc sp (Sh2 H) .bf16 := win b s.val 0 H (inbOf (plane_ok s))

theorem planes_set : b.view.set = Finset.univ.biUnion fun s : Fin A => (plane b s).view.set := by
  ext x
  rw [Finset.mem_biUnion]
  constructor
  · intro hx
    obtain ⟨i, -, rfl⟩ := Finset.mem_map.mp hx
    have h0 : (i 0).val < A := (i 0).isLt
    have h1 : (i 1).val < H := (i 1).isLt
    exact ⟨⟨(i 0).val, h0⟩, Finset.mem_univ _, (win_mem b).mpr ⟨i, ⟨rfl, by omega, by omega⟩, rfl⟩⟩
  · rintro ⟨s, -, hx⟩
    obtain ⟨i, -, rfl⟩ := (win_mem b).mp hx
    exact View.emb_mem_set _ _
theorem planes_disjoint : ∀ s ∈ (Finset.univ : Finset (Fin A)), ∀ s' ∈ (Finset.univ : Finset (Fin A)), s ≠ s' →
    Disjoint (plane b s).view.set (plane b s').view.set := fun s _ s' _ h => win_disjoint b (.inl fun e => h (Fin.ext e))

theorem planes_split (c : Dev nD) (f : Buf (Elt F) (b.view.loc (c : Thread nD τ))) :
    (b.view.loc (c : Thread nD τ) ↦[b.view.set]{fullShare} f : sProp 𝕄)
      ⊢ bigSep Finset.univ fun s : Fin A => iprop(∃ X : Blk F H, ownsTc c (plane b s) fullShare X) := by
  rw [planes_set b, pointsTo_biUnion _ _ (planes_disjoint b)]
  refine bigSep_mono fun s _ => ?_
  change BIBase.Entails (PROP := sProp 𝕄) _ _
  iintro H
  iexists _
  iapply (owns_intro (c : Thread nD τ) (plane b s) fullShare f); iexact H

include m in
theorem planes_join (c : Dev nD) :
    (bigSep Finset.univ fun s : Fin A => iprop(∃ X : Blk F H, ownsTc (Val := Elt F) c (plane b s) fullShare X) : sProp 𝕄)
      ⊢ iprop(∃ f : Buf (Elt F) (b.view.loc (c : Thread nD τ)), b.view.loc (c : Thread nD τ) ↦[b.view.set]{fullShare} f) := by
  have e : (bigSep Finset.univ fun s : Fin A => iprop(∃ X : Blk F H, ownsTc (Val := Elt F) c (plane b s) fullShare X) : sProp 𝕄)
      ⊢ bigSep Finset.univ fun s : Fin A => iprop(∃ f : Buf (Elt F) (b.view.loc (c : Thread nD τ)), b.view.loc (c : Thread nD τ) ↦[(plane b s).view.set]{fullShare} f) := by
    refine bigSep_mono fun s _ => ?_
    change BIBase.Entails (PROP := sProp 𝕄) _ _
    iintro ⟨%X, H⟩
    ihave H' := (owns_win_elim b c X) $$ H
    icases H' with ⟨%f, -, H⟩
    iexists f; iexact H
  have _ : ∀ s : Fin A, Nonempty (Buf (Elt F) (b.view.loc (c : Thread nD τ))) := fun _ => ⟨m _⟩
  refine e.trans ((BI.bigSep_exists_pi Finset.univ _).trans ?_)
  iintro ⟨%fs, H⟩
  ihave H := (pointsTo_biUnion_join Finset.univ (fun s : Fin A => (plane b s).view.set) fs (m _) (planes_disjoint b)) $$ H
  icases H with ⟨%g, -, H⟩
  iexists g
  rw [planes_set b]
  iexact H

end Planes

theorem acc_enter (c : Dev nD) (f : Buf (Elt F) ((c : Thread nD τ).loc cc0_scratch0)) :
    (((c : Thread nD τ).loc cc0_scratch0) ↦{fullShare} f : sProp 𝕄) ⊢ iprop(accX (F := F) c 0 ∗ accX (F := F) c 1) := by
  have e := planes_split (F := F) accB c f
  rw [show accB.view.set = Finset.univ from View.set_whole _, bigSep_univ_eq_bigSepL [0, 1] (by decide) (by decide)] at e
  exact e
include m in
theorem acc_leave (c : Dev nD) :
    iprop(accX (F := F) c 0 ∗ accX (F := F) c 1) ⊢ (iprop(∃ f : Buf (Elt F) ((c : Thread nD τ).loc cc0_scratch0), ((c : Thread nD τ).loc cc0_scratch0) ↦{fullShare} f) : sProp 𝕄) := by
  have e := planes_join m accB c
  rw [show accB.view.set = Finset.univ from View.set_whole _, bigSep_univ_eq_bigSepL [0, 1] (by decide) (by decide)] at e
  exact e

/-- A direction's four slots. -/
def slots (c : Dev nD) (d : Bool) : sProp 𝕄 :=
  iprop(slotX (F := F) c d 0 (by decide) ∗ slotX (F := F) c d 1 (by decide) ∗ slotX (F := F) c d 2 (by decide) ∗ slotX (F := F) c d 3 (by decide))

theorem slots_enter1 (c : Dev nD) (f : Buf (Elt F) ((c : Thread nD τ).loc cc0_scratch1)) :
    (((c : Thread nD τ).loc cc0_scratch1) ↦{fullShare} f : sProp 𝕄) ⊢ slots (F := F) c true := by
  have e := planes_split (F := F) (commB true) c f
  rw [show (commB true).view.set = Finset.univ from View.set_whole _, bigSep_univ_eq_bigSepL [0, 1, 2, 3] (by decide) (by decide)] at e
  exact e
theorem slots_enter2 (c : Dev nD) (f : Buf (Elt F) ((c : Thread nD τ).loc cc0_scratch2)) :
    (((c : Thread nD τ).loc cc0_scratch2) ↦{fullShare} f : sProp 𝕄) ⊢ slots (F := F) c false := by
  have e := planes_split (F := F) (commB false) c f
  rw [show (commB false).view.set = Finset.univ from View.set_whole _, bigSep_univ_eq_bigSepL [0, 1, 2, 3] (by decide) (by decide)] at e
  exact e
include m in
theorem slots_leave1 (c : Dev nD) :
    slots (F := F) c true ⊢ (iprop(∃ f : Buf (Elt F) ((c : Thread nD τ).loc cc0_scratch1), ((c : Thread nD τ).loc cc0_scratch1) ↦{fullShare} f) : sProp 𝕄) := by
  have e := planes_join m (commB true) c
  rw [show (commB true).view.set = Finset.univ from View.set_whole _, bigSep_univ_eq_bigSepL [0, 1, 2, 3] (by decide) (by decide)] at e
  exact e
include m in
theorem slots_leave2 (c : Dev nD) :
    slots (F := F) c false ⊢ (iprop(∃ f : Buf (Elt F) ((c : Thread nD τ).loc cc0_scratch2), ((c : Thread nD τ).loc cc0_scratch2) ↦{fullShare} f) : sProp 𝕄) := by
  have e := planes_join m (commB false) c
  rw [show (commB false).view.set = Finset.univ from View.set_whole _, bigSep_univ_eq_bigSepL [0, 1, 2, 3] (by decide) (by decide)] at e
  exact e

/-! ## The result is its four tiles -/

theorem tile_ok (r : Fin 4) : 512 * r.val + 512 ≤ 2048 := by have := r.isLt; omega
/-- One tile of the result. -/
abbrev tileM (r : Fin 4) : Memref sig .tc .hbm S512x2048 .bf16 := outM (512 * r.val) (tile_ok r)

theorem tile_mem {r : Fin 4} {x : S2048x2048.Idx} : x ∈ (tileM r).view.set ↔ 512 * r.val ≤ (x 0).val ∧ (x 0).val < 512 * r.val + 512 := by
  have e : (tileM r).view.set = (Rect.unit (s := S2048x2048) ![512 * r.val, 0] S512x2048.size (inbOut (tile_ok r))).set := View.set_slice_whole _ _
  rw [e, Rect.mem_set_unit]
  constructor
  · intro h; exact h 0
  · intro h a
    match a with
    | 0 => exact h
    | 1 => exact ⟨Nat.zero_le _, by have h : (x 1).val < 2048 := (x 1).isLt; show (x 1).val < 0 + 2048; omega⟩

theorem tiles_set : (Finset.univ : Finset S2048x2048.Idx) = Finset.univ.biUnion fun r : Fin 4 => (tileM r).view.set := by
  ext x
  have h0 : (x 0).val < 2048 := (x 0).isLt
  simp only [Finset.mem_univ, Finset.mem_biUnion, true_and, true_iff]
  refine ⟨⟨(x 0).val / 512, by omega⟩, tile_mem.mpr ?_⟩
  show 512 * ((x 0).val / 512) ≤ (x 0).val ∧ (x 0).val < 512 * ((x 0).val / 512) + 512
  omega
theorem tiles_disjoint : ∀ r ∈ (Finset.univ : Finset (Fin 4)), ∀ r' ∈ (Finset.univ : Finset (Fin 4)), r ≠ r' → Disjoint (tileM r).view.set (tileM r').view.set := by
  intro r _ r' _ h
  rw [Finset.disjoint_left]
  intro x hx hx'
  have h1 := tile_mem.mp hx
  have h2 := tile_mem.mp hx'
  exact h (Fin.ext (by omega))

/-- What the result holds at the end: every tile the sum of the devices' products. -/
def ResAt (c : Dev nD) (g : Buf (Elt F) ((c : Thread nD τ).loc main_v1)) : Prop :=
  ∀ r : Fin 4, (tileM r).view.read (Elt F) g = red m c r.val 3

theorem out_enter (c : Dev nD) (f : Buf (Elt F) ((c : Thread nD τ).loc main_v1)) :
    (((c : Thread nD τ).loc main_v1) ↦{fullShare} f : sProp 𝕄)
      ⊢ iprop((∃ Y, outO (F := F) c (512 * 0) (by decide) Y) ∗ (∃ Y, outO (F := F) c (512 * 1) (by decide) Y) ∗ (∃ Y, outO (F := F) c (512 * 2) (by decide) Y)
        ∗ ∃ Y, outO (F := F) c (512 * 3) (by decide) Y) := by
  have e : (((c : Thread nD τ).loc main_v1) ↦[Finset.univ.biUnion fun r : Fin 4 => (tileM r).view.set]{fullShare} f : sProp 𝕄)
      ⊢ bigSep Finset.univ fun r : Fin 4 => iprop(∃ Y, outO (F := F) c (512 * r.val) (tile_ok r) Y) := by
    rw [pointsTo_biUnion _ _ tiles_disjoint]
    refine bigSep_mono fun r _ => ?_
    change BIBase.Entails (PROP := sProp 𝕄) _ _
    unfold outO
    iintro H
    iexists _
    iapply (owns_intro (c : Thread nD τ) (tileM r) fullShare f); iexact H
  rw [← tiles_set, bigSep_univ_eq_bigSepL [0, 1, 2, 3] (by decide) (by decide)] at e
  exact e

theorem out_tile (c : Dev nD) (r : Fin 4) (X : Blk F 512) :
    outO c (512 * r.val) (tile_ok r) X ⊢ (iprop(∃ f : Buf (Elt F) ((c : Thread nD τ).loc main_v1), ⌜(tileM r).view.read (Elt F) f = X⌝ ∗ ((c : Thread nD τ).loc main_v1) ↦[(tileM r).view.set]{fullShare} f) : sProp 𝕄) :=
  .rfl

theorem out_leave (c : Dev nD) :
    iprop(outO c (512 * 0) (by decide) (red m c 0 3) ∗ outO c (512 * 1) (by decide) (red m c 1 3) ∗ outO c (512 * 2) (by decide) (red m c 2 3)
        ∗ outO c (512 * 3) (by decide) (red m c 3 3))
      ⊢ (iprop(∃ g : Buf (Elt F) ((c : Thread nD τ).loc main_v1), ⌜ResAt m c g⌝ ∗ ((c : Thread nD τ).loc main_v1) ↦{fullShare} g) : sProp 𝕄) := by
  iintro ⟨H0, H1, H2, H3⟩
  ihave H0 := (out_tile c 0 (red m c 0 3)) $$ H0
  icases H0 with ⟨%f0, %e0, H0⟩
  ihave H1 := (out_tile c 1 (red m c 1 3)) $$ H1
  icases H1 with ⟨%f1, %e1, H1⟩
  ihave H2 := (out_tile c 2 (red m c 2 3)) $$ H2
  icases H2 with ⟨%f2, %e2, H2⟩
  ihave H3 := (out_tile c 3 (red m c 3 3)) $$ H3
  icases H3 with ⟨%f3, %e3, H3⟩
  let fs : Fin 4 → Buf (Elt F) ((c : Thread nD τ).loc main_v1) := fun r => match r with | 0 => f0 | 1 => f1 | 2 => f2 | 3 => f3
  have hfs : ∀ r : Fin 4, (tileM r).view.read (Elt F) (fs r) = red m c r.val 3 := fun r => match r with | 0 => e0 | 1 => e1 | 2 => e2 | 3 => e3
  have j := pointsTo_biUnion_join (Ix := ℕ) (Name := ℕ) (U := UU) (Lvl := ℕ) (q := fullShare) Finset.univ (fun r : Fin 4 => (tileM r).view.set) fs f0 tiles_disjoint
  rw [← tiles_set, bigSep_univ_eq_bigSepL [0, 1, 2, 3] (by decide) (by decide)] at j
  simp only [bigSepL_cons_cons, bigSepL_singleton] at j
  ihave H := (show iprop((((c : Thread nD τ).loc main_v1) ↦[(tileM 0).view.set]{fullShare} f0) ∗ (((c : Thread nD τ).loc main_v1) ↦[(tileM 1).view.set]{fullShare} f1)
      ∗ (((c : Thread nD τ).loc main_v1) ↦[(tileM 2).view.set]{fullShare} f2) ∗ (((c : Thread nD τ).loc main_v1) ↦[(tileM 3).view.set]{fullShare} f3)) ⊢ _ from j) $$ [H0 H1 H2 H3]
  · isplitl [H0]; · iexact H0
    isplitl [H1]; · iexact H1
    isplitl [H2]; · iexact H2
    iexact H3
  icases H with ⟨%g, %hg, H⟩
  iexists g
  isplitr
  · ipureintro
    intro r
    rw [← hfs r]
    funext y
    rw [View.read_apply, View.read_apply, hg r (Finset.mem_univ r) _ (View.emb_mem_set _ y)]
  iexact H

end Cert.K

end
-- ==== Proof.Run.lean ====
/-
The launch: the resources dealt, the state before the first point, the state after the last, and the run.
-/
module

public import proofs.«01_k».proof.Proof.Deal
public import proofs.«01_k».proof.Proof.Ends
public import Idealize.ShloMosaic.Lib.Pipeline.CollectiveSegs

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (ρ : Dev nD → PrngReg)

open Idealize.ShloMosaic.Pipeline (Dat Cfg Window BodyObligation)

/-! ## What the pipeline runs -/

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
  Φ t := PhiN m c t.val
  q _ := fullShare
  owed t := owe (oweN c t.val)

theorem share_eq (c : Dev nD) (w : Fin cfg0.W) : (dats m ρ 0 c).share w = fullShare := by
  unfold Dat.share; split <;> rfl

/-- Every window is an input the body leaves alone: its buffer holds its block at every point. -/
theorem before_eq (c : Dev nD) (w : Fin cfg0.W) (t : Fin cfg0.N) (d) : (dats m ρ 0 c).before w t d = (dats m ρ 0 c).after w t := by
  refine ((dats m ρ 0 c).before_in_eq_fetched w ?_ (fun _ => ?_) (fun _ _ _ => ?_) (fun t => ?_) t d).trans ?_ <;>
    fin_cases w <;> rfl

/-- Everything owed, as the pipeline states it. -/
theorem owes_eq (c : Dev nD) (t : Fin (cfg0.N + 1)) : ((dats m ρ 0 c).owesAt (0 : ℕ) t : sProp 𝕄) ⊢ due c (oweN c t.val) := by
  unfold Dat.owesAt Pipeline.owesWithin due
  iintro ⟨%W, %hW, H⟩
  iexists W
  iexact H
theorem eq_owes (c : Dev nD) (t : Fin (cfg0.N + 1)) : due c (oweN c t.val) ⊢ ((dats m ρ 0 c).owesAt (0 : ℕ) t : sProp 𝕄) := by
  unfold Dat.owesAt Pipeline.owesWithin due
  iintro ⟨%W, H⟩
  iexists W
  isplitr; · ipureintro; exact fun _ _ => Or.inl trivial
  iexact H

theorem body_obligation (c : Dev nD) : BodyObligation (dats m ρ 0 c) (defs₀ (F := F)) 𝒱₀ (0 : ℕ) Set.univ := fun t => by
  rw [bigSep_W0, bigSep_W0]
  show iprop(PhiN m c t.val ∗ (dats m ρ 0 c).owesAt 0 t.castSucc
      ∗ (∃ d, ownsTc c (st0_0 t) fullShare ((dats m ρ 0 c).before 0 t d)) ∗ (∃ d, ownsTc c (st0_1 t) fullShare ((dats m ρ 0 c).before 1 t d))
      ∗ (∃ d, ownsTc c (st0_2 t) fullShare ((dats m ρ 0 c).before 2 t d)) ∗ (∃ d, ownsTc c (st0_3 t) fullShare ((dats m ρ 0 c).before 3 t d)))
    ⊢ wp frame (wpE (defs₀ (F := F)) 𝒱₀ (c : Thread nD τ) none) Set.univ (bodyAt0 t)
      (fun _ => iprop(PhiN m c (t.val + 1) ∗ (dats m ρ 0 c).owesAt 0 t.succ ∗ staged m c t))
  simp only [before_eq]
  iintro ⟨HP, Ho, ⟨%d0, H0⟩, ⟨%d1, H1⟩, ⟨%d2, H2⟩, ⟨%d3, H3⟩⟩
  iapply (wp_step (step m c t))
  isplitl
  · isplitl [HP]; · iexact HP
    isplitl [Ho]; · iapply (owes_eq m ρ c t.castSucc); iexact Ho
    unfold staged
    isplitl [H0]; · iexact H0
    isplitl [H1]; · iexact H1
    isplitl [H2]; · iexact H2
    iexact H3
  · iintro ⟨Ho, HP, Hs⟩
    isplitl [HP]; · iexact HP
    isplitl [Ho]; · iapply (eq_owes m ρ c t.succ); iexact Ho
    iexact Hs

/-! ## The semaphores -/

def osem (k : Option (Bool × Bool × Fin 3 × Fin 2)) : SemLoc sig := semOf (some k)

theorem ownSemFacts : Pipeline.OwnSemFacts cfg0.spec osem := by decide +kernel

theorem sems_eq (c : Dev nD) : (bigSep Finset.univ fun k : CK => (semVal (cell c k) 0 : sProp 𝕄))
    = iprop(unscopedSems0 c ∗ Pipeline.ownSems0 (Ix := ℕ) (Name := ℕ) (U := UU) (Lvl := ℕ) (Val := Elt F) (τ := τ) osem c) := by
  have hu : (unscopedSems0 c : sProp 𝕄) = semVal (cell c kBar) 0 := by
    unfold unscopedSems0; rw [bigSep_eq_bigSepL_of_eq [SemLoc.reg barS] (by decide) (by decide)]; rfl
  have he : (Finset.univ : Finset CK).erase none = Finset.univ.map Function.Embedding.some := by
    ext k; cases k <;> simp
  rw [hu, bigSep_univ_at _ (none : CK), he, bigSep_map]
  rfl

def u₀ : UU := (initOf (Pipeline.cells cfgs cellOf_inj) (Pipeline.launchToks cfgs cellOf_inj), initOf ringCells ringToks)

/-! ## What each device is dealt -/

def G (c : Dev nD) : sProp 𝕄 :=
  iprop((bigSep Finset.univ fun k : CK => roundState ER (Rd m) (cell c k) 0) ∗ (bigSep Finset.univ fun k : CK => pos (F := F) c k 0) ∗ ownD (F := F) c)
def G' (c : Dev nD) : sProp 𝕄 :=
  iprop(Recs m ∗ (bigSep Finset.univ fun k : CK => pos (F := F) c k 0) ∗ payD (F := F) c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, BI.bigSep_univ_prod]; rfl
  have hT : bigSep ringToks (fun x => (dutyTok ER x.1 x.2.1 x.2.2 : sProp 𝕄)) = bigSep Finset.univ fun c : Dev nD => ownD (F := F) c := by
    unfold ringToks; rw [bigSep_map, BI.bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => pos (F := F) c k 0) ∗ ownD (F := F) c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Every device at once: the records shared by all, the tokens dealt to those who pay. -/
theorem regroup :
    (bigSep Finset.univ fun c : Dev nD => iprop((bigSep Finset.univ fun k : CK => iprop(∃ κ : ℕ, cellInv ER (Rd m) κ (cell c k)))
          ∗ (bigSep Finset.univ fun k : CK => pos (F := F) c k 0) ∗ ownD (F := F) c) : sProp 𝕄)
      ⊢ bigSep Finset.univ (G' m) := by
  have hr : (bigSep Finset.univ fun c : Dev nD => bigSep Finset.univ fun k : CK => pos (F := F) c k 0)
      ⊢ (bigSep Finset.univ fun c : Dev nD => bigSep Finset.univ fun k : CK => reached ER (cell c k) 0 : sProp 𝕄) :=
    bigSep_mono fun c _ => bigSep_mono fun k _ => by
      change BIBase.Entails (PROP := sProp 𝕄) _ _
      unfold pos
      iintro ⟨-, H⟩
      iexact H
  have hR : iprop((bigSep Finset.univ fun c : Dev nD => bigSep Finset.univ fun k : CK => iprop(∃ κ : ℕ, cellInv ER (Rd m) κ (cell c k)))
      ∗ (bigSep Finset.univ fun c : Dev nD => bigSep Finset.univ fun k : CK => reached ER (cell c k) 0)) ⊢ Recs (F := F) m := by
    unfold Recs
    rw [← BI.bigSep_univ_prod (fun x : Dev nD × CK => iprop(∃ κ : ℕ, cellInv ER (Rd m) κ (cell x.1 x.2))),
      ← BI.bigSep_univ_prod (fun x : Dev nD × CK => (reached ER (cell x.1 x.2) 0 : sProp 𝕄)), ← bigSep_sep']
  have hG : iprop(Recs m ∗ (bigSep Finset.univ fun c : Dev nD => iprop((bigSep Finset.univ fun k : CK => pos (F := F) c k 0) ∗ payD (F := F) c)))
      ⊢ bigSep Finset.univ (G' m) := with_persistent fun c _ => .rfl
  rw [bigSep_sep', bigSep_sep']
  iintro ⟨HI, Hat, Htok⟩
  ihave Htk := (deal (F := F)) $$ Htok
  ihave #Hr := hr $$ Hat
  ihave #HR := hR $$ [HI]
  · isplitl [HI]; · iexact HI
    iexact Hr
  iapply hG
  isplitr; · iexact HR
  rw [bigSep_sep']
  isplitl [Hat]; · iexact Hat
  iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Before the first point and after the last -/

/-- What each device owes at first. -/
def O₀ (d : Dev nD) : CellTallies nD τ sig ℕ := owe (tail d 0)

/-- What a device brings to its region. -/
def start (c : Dev nD) : sProp 𝕄 :=
  iprop(G' m c ∗ levAts L lv ∗ Pipeline.launchCred O₀ c
    ∗ ∃ f : Buf (Elt F) ((c : Thread nD τ).loc main_v1), ((c : Thread nD τ).loc main_v1) ↦{fullShare} f)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨Hv, Hlev, Hcr, -, HG⟩
  imodintro
  isplitl
  · isplitl [HG]; · iexact HG
    isplitl [Hlev]; · iexact Hlev
    isplitl [Hcr]; · iexact Hcr
    iexists _; iexact Hv
  · iempintro

/-- A direction at rest, and the second pieces' positions with their tokens. -/
theorem dir_mk (c : Dev nD) (d : Bool) :
    iprop(Recs m ∗ dirK (fun k => pos (F := F) c k 0) d ∗ slots (F := F) c d
        ∗ ((hopK (F := F) c d 0 1 0 ∗ hopK (F := F) c d 1 1 0 ∗ hopK (F := F) c d 2 1 0) ∗ hopC (F := F) c d 0 1 0 ∗ hopC (F := F) c d 1 1 0 ∗ hopC (F := F) c d 2 1 0))
      ⊢ iprop(idle (F := F) c d 0 ∗ toksL (F := F) c d) := by
  unfold dirK slots idle done nextBar at2
  iintro ⟨#HR, ⟨⟨A0, B0⟩, ⟨A1, B1⟩, A2, B2⟩, ⟨S0, S1, S2, S3⟩, HT⟩
  isplitl [A0 A1 A2 S0 S1 S2 S3]
  · isplitl [A0 S0]
    · isplitl [A0]; · iexact A0
      iexact S0
    isplitl [A1 S1]
    · isplitl [A1]; · iexact A1
      iexact S1
    isplitl [A2 S2]
    · isplitl [A2]; · iexact A2
      iexact S2
    isplitl [S3]; · iexact S3
    ihave Hg := (Recs_get m (src d c) kBar) $$ HR
    icases Hg with ⟨-, #Hr⟩
    iexact Hr
  · iapply (toksL_mk c d)
    unfold at2
    isplitl [HT]; · iexact HT
    isplitl [B0]; · iexact B0
    isplitl [B1]; · iexact B1
    iexact B2

theorem outs_mk (c : Dev nD) (f : Buf (Elt F) ((c : Thread nD τ).loc main_v1)) :
    iprop(pos (F := F) c kOut 0 ∗ (dutyTok ER (cell c kOut) 0 false ∗ dutyTok ER (cell c kOut) 1 false ∗ dutyTok ER (cell c kOut) 2 false ∗ dutyTok ER (cell c kOut) 3 false)
        ∗ ((c : Thread nD τ).loc main_v1) ↦{fullShare} f)
      ⊢ outs m c 0 := by
  unfold outs tileO
  simp only [Nat.not_lt_zero, ↓reduceIte]
  iintro ⟨Hp, ⟨T0, T1, T2, T3⟩, Hf⟩
  ihave H := (out_enter c f) $$ Hf
  icases H with ⟨O0, O1, O2, O3⟩
  isplitl [Hp]; · iexact Hp
  isplitl [T0 O0]
  · isplitl [T0]; · iexact T0
    iexact O0
  isplitl [T1 O1]
  · isplitl [T1]; · iexact T1
    iexact O1
  isplitl [T2 O2]
  · isplitl [T2]; · iexact T2
    iexact O2
  isplitl [T3]; · iexact T3
  iexact O3

theorem phi_first (c : Dev nD) : (dats m ρ 0 c).Φ 0 = iprop(Recs m ∗ levAts L lv ∗ St m c 0 0) := rfl

theorem St_first (c : Dev nD) : St m c 0 0
    = iprop(((idle (F := F) c true 0 ∗ idle (F := F) c false 0) ∗ accX (F := F) c 1 ∗ outs m c 0) ∗ accX (F := F) c 0
      ∗ (toks (F := F) c 0 ∗ toks (F := F) c 1 ∗ toks (F := F) c 2 ∗ toks (F := F) c 3 ∗ toksL (F := F) c true ∗ toksL (F := F) c false) ∗ pos (F := F) c kBar 0) := rfl

theorem phi_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [phi_first, St_first, scopedRest0_eq]
  unfold start G'
  iintro ⟨⟨⟨#HR, Hpos, Hpay⟩, #Hlev, Hcr, ⟨%fo, Hfo⟩⟩, -, ⟨%f0, H0⟩, ⟨%f1, H1⟩, ⟨%f2, H2⟩⟩
  isplitr; · iexact HR
  isplitr; · iexact Hlev
  ihave Hp := (Entails.of_eq (cells_eq fun k => pos (F := F) c k 0)) $$ Hpos
  icases Hp with ⟨PB, PO, PT, PF⟩
  ihave Hk := (payD_all c) $$ Hpay
  icases Hk with ⟨K0, K1, K2, K3, KT, KF, KO⟩
  ihave Hc := (show Pipeline.launchCred O₀ c ⊢ _ from owed_all c) $$ Hcr
  icases Hc with ⟨C0, C1, C2, C3, CT, CF⟩
  ihave Ha := (acc_enter c f0) $$ H0
  icases Ha with ⟨Ha0, Ha1⟩
  ihave ST := (slots_enter1 c f1) $$ H1
  ihave SF := (slots_enter2 c f2) $$ H2
  ihave DT := (dir_mk m c true) $$ [PT ST KT CT]
  · isplitr; · iexact HR
    isplitl [PT]; · iexact PT
    isplitl [ST]; · iexact ST
    isplitl [KT]; · iexact KT
    iexact CT
  icases DT with ⟨IT, LT⟩
  ihave DF := (dir_mk m c false) $$ [PF SF KF CF]
  · isplitr; · iexact HR
    isplitl [PF]; · iexact PF
    isplitl [SF]; · iexact SF
    isplitl [KF]; · iexact KF
    iexact CF
  icases DF with ⟨IF, LF⟩
  isplitl [IT IF Ha1 PO KO Hfo]
  · isplitl [IT IF]
    · isplitl [IT]; · iexact IT
      iexact IF
    isplitl [Ha1]; · iexact Ha1
    iapply (outs_mk m c fo)
    isplitl [PO]; · iexact PO
    isplitl [KO]; · iexact KO
    iexact Hfo
  isplitl [Ha0]; · iexact Ha0
  isplitr [PB]
  · isplitl [K0 C0]
    · iapply (toks_mk c 0); isplitl [K0]; · iexact K0
      iexact C0
    isplitl [K1 C1]
    · iapply (toks_mk c 1); isplitl [K1]; · iexact K1
      iexact C1
    isplitl [K2 C2]
    · iapply (toks_mk c 2); isplitl [K2]; · iexact K2
      iexact C2
    isplitl [K3 C3]
    · iapply (toks_mk c 3); isplitl [K3]; · iexact K3
      iexact C3
    isplitl [LT]; · iexact LT
    iexact LF
  iexact PB

theorem last_val : (Fin.last cfg0.N).val = 64 := N_0

theorem phi_last (c : Dev nD) : (dats m ρ 0 c).Φ (Fin.last cfg0.N) = Fin1 m c := by
  show PhiN m c (Fin.last cfg0.N).val = _
  rw [last_val]; rfl
theorem owed_first_eq (c : Dev nD) : (dats m ρ 0 c).owed 0 = O₀ c := congrArg owe (show oweN c 0 = tail c 0 from rfl)
theorem owed_last_eq (c : Dev nD) : (dats m ρ 0 c).owed (Fin.last cfg0.N) = 0 := by
  show owe (oweN c (Fin.last cfg0.N).val) = _
  rw [last_val]; rfl

/-- What a device leaves. -/
def leave (c : Dev nD) : sProp 𝕄 :=
  iprop(unscopedSems0 c ∗ ∃ g : Buf (Elt F) ((c : Thread nD τ).loc main_v1), ⌜ResAt m c g⌝ ∗ ((c : Thread nD τ).loc main_v1) ↦{fullShare} g)

theorem phi_exit (c : Dev nD) :
    (dats m ρ 0 c).Φ (Fin.last cfg0.N) ⊢ iprop(leave m c ∗ Pipeline.ownSems0 osem c ∗ Pipeline.scopedRest cfg0.spec c) := by
  rw [phi_last, scopedRest0_eq]
  unfold Fin1 leave
  rw [sems_eq]
  iintro ⟨⟨Hu, Ho⟩, ⟨ST, SF⟩, Ha, Hout⟩
  ihave Hr := (out_leave m c) $$ Hout
  isplitl [Hu Hr]
  · isplitl [Hu]; · iexact Hu
    iexact Hr
  isplitl [Ho]; · iexact Ho
  isplitl [Ha]; · iapply (acc_leave m c); iexact Ha
  isplitl [ST]; · iapply (slots_leave1 m c); unfold slots; iexact ST
  iapply (slots_leave2 m c); unfold slots; iexact SF

/-! ## The pipeline's own waits -/

theorem above_all (c : Dev nD) (n : ℕ) : Above 0 (oweN c n) := by
  unfold oweN
  split
  · rename_i h
    have key : ∀ c : Dev nD, ∀ n : Fin 64, Above 0 (pend c (n.val / 16) (ph (n.val % 16))) := by decide +kernel
    exact key c ⟨n, h⟩
  · intro x hx; cases hx

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait c _ 0 0 (by decide) (by fin_cases w <;> fin_cases s <;> decide +kernel +revert) (above_all c _)

/-! ## The run -/

/-- What is found at the end on device `c`. -/
def Found (c : Dev nD) (s : MemSt nD τ sig (Elt F)) : Prop :=
  (∀ sm : SemLoc sig, sm.isScoped .tc = false → s.sem ((c.tc : Thread nD τ), sm) = 0) ∧ ResAt m c (s.mem ((c : Thread nD τ).loc main_v1))

def QC : PUnit × MemSt nD τ sig (Elt F) → Prop := fun r =>
  (∀ c : Dev nD, (∀ w : Fin cfg0.W, r.2.mem ((cfg0.win w).arr.view.loc (c : Thread nD τ)) = (dats m ρ 0 c).arrAt w cfg0.N)
    ∧ ResAt m c (r.2.mem ((c : Thread nD τ).loc main_v1))) ∧ r.2.sem = fun _ => 0

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := owed_first_eq m ρ) (howedN := owed_last_eq m ρ)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ) (hin := phi_intro m ρ) (hout := phi_exit m ρ)
    (QY := Found m)
    (hY := fun c s' => by
      unfold leave
      iintro ⟨⟨Hu, %g, %hg, Hg⟩, -, HSI⟩
      ihave %hf := SI_pointsTo_agree $$ [HSI Hg]
      · isplitl [HSI] <;> iassumption
      imod (Pipeline.unscopedSems0_read (X := unscopedSems0 c) (c := c) fupd_intro s') $$ [Hu HSI] with ⟨%hu, HSI⟩
      · isplitl [Hu] <;> iassumption
      imodintro
      isplitr
      · ipureintro
        refine ⟨hu, ?_⟩
        have e : s'.mem.mem ((c : Thread nD τ).loc main_v1) = g := funext fun i => hf i (Finset.mem_univ i)
        rw [e]; exact hg
      iexact HSI)
    (hQ := fun _ h hs => ⟨fun c => ⟨(h c).1, (h c).2.2.2⟩, sem_eq_zero hs fun c => (h c).2.2.1⟩)

end Cert.K

end
-- ==== Proof.Frames.lean ====
/-
The frames: the run read at the claims.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (ρ : Dev nD → PrngReg)

open Idealize.ShloMosaic.Pipeline (Dat)

/-- What the claims say of the final memory: the arguments unchanged, the reduced tiles in the result. -/
def Left (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ ResAt m c (s.mem ((c : Thread nD τ).loc main_v1))

theorem run_left : θ_run defs (onTc (τ := τ) (main (F := F))) ⟨m, fun _ => 0, ρ⟩ (fun r => (∀ c : Dev nD, Left m c r.2) ∧ r.2.sem = fun _ => 0) :=
  (θ_run defs _ _).mono (fun r h => ⟨fun c => ⟨
      ⟨((h.1 c).1 0).trans (((dats m ρ 0 c).arrAt_in 0 rfl _).trans rfl), ((h.1 c).1 1).trans (((dats m ρ 0 c).arrAt_in 1 rfl _).trans rfl),
        ((h.1 c).1 2).trans (((dats m ρ 0 c).arrAt_in 2 rfl _).trans rfl), ((h.1 c).1 3).trans (((dats m ρ 0 c).arrAt_in 3 rfl _).trans rfl)⟩,
      (h.1 c).2⟩, h.2⟩) (run_main m ρ)

theorem frame_ideal : Cert.quiescent_KernelIdeal := fun m ρ _ =>
  (θ_run Cert.KernelIdeal.defs _ _).mono (fun _ h => ⟨fun c => (h.1 c).1, h.2⟩) (run_left (F := Ideal) m ρ)

/-- The kernel before the idealization is the same text: its kernel bodies, -/
theorem defs₀_same : Cert.Kernel.defs₀ (F := Bits) = Cert.KernelIdeal.defs₀ (F := Bits) := by
  unfold Cert.Kernel.defs₀ Cert.KernelIdeal.defs₀
  refine congrArg (Defs.onTc (τ := Cert.KernelIdeal.τ) (sig := Cert.KernelIdeal.sig)) ?_
  funext l x
  match l, x with
  | 0, (t, s) => rfl
/-- and its table. -/
theorem defs_same : Cert.Kernel.defs (F := Bits) = Cert.KernelIdeal.defs (F := Bits) := by
  unfold Cert.Kernel.defs Cert.KernelIdeal.defs
  rw [defs₀_same]; rfl

theorem frame_bits : Cert.quiescent_Kernel := fun m ρ _ => by
  rw [defs_same]
  exact (θ_run Cert.KernelIdeal.defs _ _).mono (fun _ h => ⟨fun c => (h.1 c).1, h.2⟩) (run_left (F := Bits) m ρ)

/-- The reference declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.K

end
-- ==== Proof.Value.lean ====
/-
The kernel's result over the extended reals, at one element: the sum over the four devices, their sixteen blocks of
hidden units and the 256 units of a block.
-/
module

public import proofs.«01_k».proof.Proof.Ends
public import Idealize.ShloMosaic.Lib.MatmulPlain
public import Idealize.ShloMosaic.Lib.ValueIdx

@[expose] public section

noncomputable section

namespace Cert.K

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

variable (m : (ℓ : Loc nD τ sig) → Buf (Elt Ideal) ℓ)

/-! ## Scalars -/

/-- `u · logistic u`, the kernel's activation. -/
def silu (u : EReal) : EReal := u * Ideal.logistic u

theorem exp_nonneg (x : EReal) : 0 ≤ Ideal.exp x := by
  induction x with
  | bot => exact le_rfl
  | top => exact le_top
  | coe r => exact EReal.coe_nonneg.mpr (Real.exp_pos r).le

theorem one_add_exp_ne (x : EReal) : 1 + Ideal.exp x ≠ 0 :=
  (lt_of_lt_of_le zero_lt_one (le_add_of_nonneg_right (exp_nonneg x))).ne'

/-- The reference's activation is the same function: the denominator is never zero. -/
theorem silu_eq (u : EReal) : Ideal.div u (1 + Ideal.exp (-u)) = silu u := by
  unfold silu Ideal.logistic Ideal.div
  rw [if_neg (one_add_exp_ne _), if_neg (one_add_exp_ne _), one_mul]

theorem one_bf16 : Ideal.ofBits .bf16 0x3F80#16 = 1 := by
  simp [Ideal.ofBits, Ideal.ieee, -EReal.coe_mul]; norm_num

/-! ## One grid point -/

/-- One hidden unit's share of one element of the result. -/
def unit {K : ℕ} (x g u : Fin K → EReal) (w : EReal) : EReal := ((∑ q, x q * g q) * silu (∑ q, x q * u q)) * w

/-- What a grid point computes, of the four blocks it reads: a sum over the block's 256 hidden units. -/
theorem pay_apply (g u : Vec Ideal S2048x256 .bf16) (w : Vec Ideal S256x2048 .bf16) (x : Vec Ideal S512x2048 .bf16)
    (a : Fin 512) (b : Fin 2048) :
    k0_pay27 g u w x x (ix2 a b)
      = ∑ j : Fin 256, unit (fun q : Fin 2048 => x (ix2 a q)) (fun q => g (ix2 q j)) (fun q => u (ix2 q j)) (w (ix2 j b)) := by
  unfold k0_pay27
  simp only [shapeCast_self]
  rw [truncf_apply]
  refine (Ideal.matmul_plain_apply (M := 512) (K := 256) (N := 2048) none _ w _ a b).trans ?_
  rw [constant_apply, Ideal.ofBits_zero_f32, zero_add]
  refine Finset.sum_congr rfl fun j _ => ?_
  have dot (y : Vec Ideal S2048x256 .bf16) :
      (matmul (F := Ideal) (φ₁ := .bf16) (φ₂ := .bf16) dot_S512x2048_S2048x256_S512x256_1_0_0_1_n_n none x y (constant S512x256 .f32 0x00000000#32) (ix2 a j) : EReal)
        = ∑ q : Fin 2048, (x (ix2 a q) : EReal) * y (ix2 q j) := by
    refine (Ideal.matmul_plain_apply (M := 512) (K := 2048) (N := 256) none x y _ a j).trans ?_
    rw [constant_apply, Ideal.ofBits_zero_f32, zero_add]
  rw [truncf_apply, mulf_apply, mulf_apply]
  unfold unit silu
  rw [← dot g, ← dot u]
  rfl

/-! ## The blocks a grid point reads -/

variable (c : Dev nD) (t : Fin cfg0.N)

theorem idx_0 : ∀ t, (cfg0.win 0).index t = ![t.val / 16, 0] := by decide +kernel
theorem idx_1 : ∀ t, (cfg0.win 1).index t = ![0, t.val % 16] := by decide +kernel
theorem idx_2 : ∀ t, (cfg0.win 2).index t = ![0, t.val % 16] := by decide +kernel
theorem idx_3 : ∀ t, (cfg0.win 3).index t = ![t.val % 16, 0] := by decide +kernel

theorem blk_0 (a : Fin 512) (q : Fin 2048) (r : Fin 2048) (hr : r.val = 512 * (t.val / 16) + a.val) :
    (iblk m c 0 t : Vec Ideal S512x2048 .bf16) (ix2 a q) = m ((c : Thread nD τ).loc main_arg0) (ix2 r q) := by
  unfold iblk
  rw [View.read_apply]
  show V m c main_arg0 _ = _
  unfold V
  congr 1
  funext e
  apply Fin.ext
  match e with
  | ⟨0, _⟩ => show (cfg0.win 0).index t 0 * 512 + 1 * a.val = r.val; rw [idx_0, hr]; show t.val / 16 * 512 + 1 * a.val = _; omega
  | ⟨1, _⟩ => show (cfg0.win 0).index t 1 * 2048 + 1 * q.val = q.val; rw [idx_0]; show 0 * 2048 + 1 * q.val = _; omega

theorem blk_1 (q : Fin 2048) (j : Fin 256) (h : Fin 4096) (hh : h.val = 256 * (t.val % 16) + j.val) :
    (iblk m c 1 t : Vec Ideal S2048x256 .bf16) (ix2 q j) = m ((c : Thread nD τ).loc main_arg1) (ix2 q h) := by
  unfold iblk
  rw [View.read_apply]
  show V m c main_arg1 _ = _
  unfold V
  congr 1
  funext e
  apply Fin.ext
  match e with
  | ⟨0, _⟩ => show (cfg0.win 1).index t 0 * 2048 + 1 * q.val = q.val; rw [idx_1]; show 0 * 2048 + 1 * q.val = _; omega
  | ⟨1, _⟩ => show (cfg0.win 1).index t 1 * 256 + 1 * j.val = h.val; rw [idx_1, hh]; show t.val % 16 * 256 + 1 * j.val = _; omega

theorem blk_2 (q : Fin 2048) (j : Fin 256) (h : Fin 4096) (hh : h.val = 256 * (t.val % 16) + j.val) :
    (iblk m c 2 t : Vec Ideal S2048x256 .bf16) (ix2 q j) = m ((c : Thread nD τ).loc main_arg2) (ix2 q h) := by
  unfold iblk
  rw [View.read_apply]
  show V m c main_arg2 _ = _
  unfold V
  congr 1
  funext e
  apply Fin.ext
  match e with
  | ⟨0, _⟩ => show (cfg0.win 2).index t 0 * 2048 + 1 * q.val = q.val; rw [idx_2]; show 0 * 2048 + 1 * q.val = _; omega
  | ⟨1, _⟩ => show (cfg0.win 2).index t 1 * 256 + 1 * j.val = h.val; rw [idx_2, hh]; show t.val % 16 * 256 + 1 * j.val = _; omega

theorem blk_3 (j : Fin 256) (b : Fin 2048) (h : Fin 4096) (hh : h.val = 256 * (t.val % 16) + j.val) :
    (iblk m c 3 t : Vec Ideal S256x2048 .bf16) (ix2 j b) = m ((c : Thread nD τ).loc main_arg3) (ix2 h b) := by
  unfold iblk
  rw [View.read_apply]
  show V m c main_arg3 _ = _
  unfold V
  congr 1
  funext e
  apply Fin.ext
  match e with
  | ⟨0, _⟩ => show (cfg0.win 3).index t 0 * 256 + 1 * j.val = h.val; rw [idx_3, hh]; show t.val % 16 * 256 + 1 * j.val = _; omega
  | ⟨1, _⟩ => show (cfg0.win 3).index t 1 * 2048 + 1 * b.val = b.val; rw [idx_3]; show 0 * 2048 + 1 * b.val = _; omega

/-! ## Sums -/

/-- A device's hidden unit `h`'s share of element `(r, b)`. -/
def share (c : Dev nD) (r b : Fin 2048) (h : Fin 4096) : EReal :=
  unit (fun q : Fin 2048 => m ((c : Thread nD τ).loc main_arg0) (ix2 r q)) (fun q => m ((c : Thread nD τ).loc main_arg1) (ix2 q h))
    (fun q => m ((c : Thread nD τ).loc main_arg2) (ix2 q h)) (m ((c : Thread nD τ).loc main_arg3) (ix2 h b))

theorem mlp_apply (i : Fin 4) (k : Fin 16) (a : Fin 512) (b r : Fin 2048) (hr : r.val = 512 * i.val + a.val) :
    mlp m c (pt i.val k.val) (ix2 a b) = ∑ j : Fin 256, share m c r b (finProdFinEquiv (k, j)) := by
  have ht : (pt i.val k.val).val = 16 * i.val + k.val := Nat.mod_eq_of_lt (by omega)
  unfold mlp
  refine (pay_apply (iblk m c 1 _) (iblk m c 2 _) (iblk m c 3 _) (iblk m c 0 _) a b).trans (Finset.sum_congr rfl fun j _ => ?_)
  have hj : ((finProdFinEquiv (k, j) : Fin (16 * 256)) : ℕ) = 256 * ((pt i.val k.val).val % 16) + j.val := by
    rw [ht, finProdFinEquiv_apply_val]; dsimp only; omega
  unfold share
  congr 1
  · exact funext fun q => blk_0 m c _ a q r (by rw [ht, hr]; omega)
  · exact funext fun q => blk_1 m c _ q j _ hj
  · exact funext fun q => blk_2 m c _ q j _ hj
  · exact blk_3 m c _ j b _ hj

theorem partAt_apply (i : ℕ) (y : (Sh2 512).Idx) : ∀ n, partAt m c i n y = ∑ k ∈ Finset.range (n + 1), mlp m c (pt i k) y
  | 0 => (Finset.sum_range_one (fun k => mlp m c (pt i k) y)).symm
  | n + 1 => by
    rw [Finset.sum_range_succ, ← partAt_apply i y n]; rfl

/-- A device's partial product: the sum over its hidden units. -/
theorem partF_apply (i : Fin 4) (a : Fin 512) (b r : Fin 2048) (hr : r.val = 512 * i.val + a.val) :
    partF m c i.val (ix2 a b) = ∑ h : Fin 4096, share m c r b h := by
  unfold partF
  rw [partAt_apply, ← Fin.sum_univ_eq_sum_range (fun k => mlp m c (pt i.val k) (ix2 a b)),
    ← Equiv.sum_comp (finProdFinEquiv (m := 16) (n := 256)), Fintype.sum_prod_type]
  exact Finset.sum_congr rfl fun k _ => mlp_apply m c i k a b r hr

/-- The ring's four devices, whichever way one goes round. -/
theorem sum_ring (d : Bool) (c : Dev nD) (f : Dev nD → EReal) :
    f c + f ((src d)^[1] c) + f ((src d)^[2] c) + f ((src d)^[3] c) = ∑ e, f e := by
  have h : (Finset.univ : Finset (Dev nD)) = {c, (src d)^[1] c, (src d)^[2] c, (src d)^[3] c} := by revert c d; decide
  have h0 : c ∉ ({(src d)^[1] c, (src d)^[2] c, (src d)^[3] c} : Finset (Dev nD)) := by revert c d; decide
  have h1 : (src d)^[1] c ∉ ({(src d)^[2] c, (src d)^[3] c} : Finset (Dev nD)) := by revert c d; decide
  have h2 : (src d)^[2] c ∉ ({(src d)^[3] c} : Finset (Dev nD)) := by revert c d; decide
  rw [h, Finset.sum_insert h0, Finset.sum_insert h1, Finset.sum_insert h2, Finset.sum_singleton, add_assoc, add_assoc]

/-- A tile after the three arrivals: the sum of the four devices' partial products. -/
theorem red_apply (i : ℕ) (a : Fin 512) (b : Fin 2048) : red m c i 3 (ix2 a b) = ∑ e, partF m e i (ix2 a b) := by
  by_cases h : a.val < 256
  · have step (s : ℕ) : red m c i (s + 1) (ix2 a b) = red m c i s (ix2 a b) + partF m ((src true)^[s + 1] c) i (ix2 a b) := by
      show cat _ _ _ (ix2 a b) = _
      unfold cat
      rw [dif_pos (show ((ix2 a b : (Sh2 512).Idx) 0).val < 256 from h)]
      have e : (⟨0 + a.val, by omega⟩ : Fin 512) = a := Fin.ext (Nat.zero_add _)
      show red m c i s (ix2 (⟨0 + a.val, _⟩ : Fin 512) b) + partF m ((src true)^[s + 1] c) i (ix2 (⟨0 + a.val, _⟩ : Fin 512) b) = _
      rw [e]
    rw [step, step, step, ← sum_ring true c]; rfl
  · have step (s : ℕ) : red m c i (s + 1) (ix2 a b) = red m c i s (ix2 a b) + partF m ((src false)^[s + 1] c) i (ix2 a b) := by
      show cat _ _ _ (ix2 a b) = _
      unfold cat
      rw [dif_neg (show ¬((ix2 a b : (Sh2 512).Idx) 0).val < 256 from h)]
      have e : (⟨256 + (a.val - 256), by omega⟩ : Fin 512) = a := Fin.ext (by show 256 + (a.val - 256) = a.val; omega)
      show red m c i s (ix2 (⟨256 + (a.val - 256), _⟩ : Fin 512) b) + partF m ((src false)^[s + 1] c) i (ix2 (⟨256 + (a.val - 256), _⟩ : Fin 512) b) = _
      rw [e]
    rw [step, step, step, ← sum_ring false c]; rfl

/-- The result the kernel leaves, at one element: the sum over the devices and their hidden units. -/
theorem res_apply (g : Buf (Elt Ideal) ((c : Thread nD τ).loc main_v1)) (hg : ResAt m c g) (r b : Fin 2048) :
    g (ix2 r b) = ∑ e : Dev nD, ∑ h : Fin 4096, share m e r b h := by
  have hi : r.val / 512 < 4 := by omega
  have ha : r.val % 512 < 512 := Nat.mod_lt _ (by decide)
  have hr : r.val = 512 * (r.val / 512) + r.val % 512 := (Nat.div_add_mod _ _).symm
  have h := congrFun (hg ⟨r.val / 512, hi⟩) (ix2 (⟨r.val % 512, ha⟩ : Fin 512) b)
  rw [red_apply] at h
  rw [View.read_apply] at h
  rw [show (ix2 r b : S2048x2048.Idx) = (tileM ⟨r.val / 512, hi⟩).view.emb (ix2 (⟨r.val % 512, ha⟩ : Fin 512) b) from ?_]
  · refine h.trans (Finset.sum_congr rfl fun e _ => ?_)
    exact partF_apply m e ⟨r.val / 512, hi⟩ _ b r hr
  · funext e
    apply Fin.ext
    match e with
    | ⟨0, _⟩ => show r.val = 512 * (r.val / 512) + 1 * (r.val % 512); omega
    | ⟨1, _⟩ => show b.val = 0 + 1 * b.val; omega

end Cert.K

end
-- ==== Proof.Algebraic.lean ====
/-
The kernel's result over the extended reals is the reference's, element by element: the same sum over the hidden units, the
kernel's taken device by device, block by block.
-/
module

public import proofs.«01_k».proof.Proof.Frames
public import proofs.«01_k».proof.Proof.Value
public import Idealize.ShloMosaic.Lib.StackMember

@[expose] public section

noncomputable section

namespace Cert.K

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.StackMember (dotGeneral_plain_apply)
open scoped BigOperators

/-! ## The reference at one element -/

section Reference
open Cert.ReferenceIdeal Cert.ReferenceIdeal.Gen

/-- What the reference computes of its four arguments. -/
def refOut (X : FVec Ideal S2048x2048 .bf16) (G U : FVec Ideal S2048x16384 .bf16) (W : FVec Ideal S16384x2048 .bf16) : FVec Ideal S2048x2048 .bf16 :=
  truncf .bf16 (Host.dotGeneral dot_S2048x16384_S16384x2048_S2048x2048_1_0_0_1_n_n none
    (mulf (truncf .bf16 (Host.dotGeneral dot_S2048x2048_S2048x16384_S2048x16384_1_0_0_1_n_n none X G) bitsLt_bf16_f32)
      (Host.divf (truncf .bf16 (Host.dotGeneral dot_S2048x2048_S2048x16384_S2048x16384_1_0_0_1_n_n none X U) bitsLt_bf16_f32)
        (addf (broadcastInDim S2048x16384 ![] bcast_S_S2048x16384 (constant S_ .bf16 0x3F80#16))
          (Host.exp (Host.negf (truncf .bf16 (Host.dotGeneral dot_S2048x2048_S2048x16384_S2048x16384_1_0_0_1_n_n none X U) bitsLt_bf16_f32)))))) W) bitsLt_bf16_f32

/-- At one element it is the sum over all 16384 hidden units. -/
theorem refOut_apply (X : FVec Ideal S2048x2048 .bf16) (G U : FVec Ideal S2048x16384 .bf16) (W : FVec Ideal S16384x2048 .bf16) (r b : Fin 2048) :
    refOut X G U W (ix2 r b)
      = ∑ h : Fin 16384, unit (fun q : Fin 2048 => X (ix2 r q)) (fun q => G (ix2 q h)) (fun q => U (ix2 q h)) (W (ix2 h b)) := by
  unfold refOut
  rw [truncf_apply]
  refine (dotGeneral_plain_apply (m := 2048) (k := 16384) (n := 2048) none _ W r b).trans (Finset.sum_congr rfl fun h _ => ?_)
  have dot (Y : FVec Ideal S2048x16384 .bf16) :
      (Host.dotGeneral (F := Ideal) dot_S2048x2048_S2048x16384_S2048x16384_1_0_0_1_n_n none X Y (ix2 r h) : EReal)
        = ∑ q : Fin 2048, (X (ix2 r q) : EReal) * Y (ix2 q h) :=
    dotGeneral_plain_apply (m := 2048) (k := 2048) (n := 16384) none X Y r h
  unfold unit
  rw [← dot G, ← dot U, ← silu_eq, ← one_bf16]
  rfl

end Reference

open Cert.KernelIdeal Cert.KernelIdeal.Gen

variable (m : (ℓ : Loc nD τ sig) → Buf (Elt Ideal) ℓ)

/-! ## The devices' shares together -/

/-- Device `e`'s hidden unit `h` is hidden unit `4096 e + h` of the whole. -/
theorem share_block (e : Dev nD) (r b : Fin 2048) (h : Fin 4096)
    (X : FVec Ideal S2048x2048 .bf16) (G U : FVec Ideal ⟨2, ![2048, 16384]⟩ .bf16) (W : FVec Ideal ⟨2, ![16384, 2048]⟩ .bf16)
    (h0 : m ((e : Thread nD τ).loc main_arg0) = X)
    (h1 : m ((e : Thread nD τ).loc main_arg1) = Layout.block ⟨2, ![2048, 4096]⟩ ⟨2, ![2048, 16384]⟩ 1 4 e G)
    (h2 : m ((e : Thread nD τ).loc main_arg2) = Layout.block ⟨2, ![2048, 4096]⟩ ⟨2, ![2048, 16384]⟩ 1 4 e U)
    (h3 : m ((e : Thread nD τ).loc main_arg3) = Layout.block ⟨2, ![4096, 2048]⟩ ⟨2, ![16384, 2048]⟩ 0 4 e W)
    (H : Fin 16384) (hH : H.val = e.val * 4096 + h.val) :
    share m e r b h = unit (fun q : Fin 2048 => X (ix2 r q)) (fun q => G (ix2 q H)) (fun q => U (ix2 q H)) (W (ix2 H b)) := by
  unfold share
  rw [h0, h1, h2, h3]
  have col (A : FVec Ideal ⟨2, ![2048, 16384]⟩ .bf16) (q : Fin 2048) :
      Layout.block ⟨2, ![2048, 4096]⟩ ⟨2, ![2048, 16384]⟩ 1 4 e A (by decide) (ix2 q h) = A (ix2 q H) := by
    refine congrArg A (funext fun a => Fin.ext ?_)
    match a with
    | ⟨0, _⟩ => rfl
    | ⟨1, _⟩ => exact hH.symm
  have row : Layout.block ⟨2, ![4096, 2048]⟩ ⟨2, ![16384, 2048]⟩ 0 4 e W (by decide) (ix2 h b) = W (ix2 H b) := by
    refine congrArg W (funext fun a => Fin.ext ?_)
    match a with
    | ⟨0, _⟩ => exact hH.symm
    | ⟨1, _⟩ => rfl
  congr 1
  · exact funext fun q => col G q
  · exact funext fun q => col U q

/-- The hidden units, device by device. -/
theorem sum_units (f : Fin 16384 → EReal) : (∑ e : Fin 4, ∑ h : Fin 4096, f (finProdFinEquiv (e, h))) = ∑ H, f H := by
  rw [← Equiv.sum_comp (finProdFinEquiv (m := 4) (n := 4096)), Fintype.sum_prod_type]

/-- So what the kernel leaves on a device is what the reference computes of the whole arrays. -/
theorem res_eq (c : Dev nD) (g : Buf (Elt Ideal) ((c : Thread nD τ).loc main_v1)) (hg : ResAt m c g)
    (X : FVec Ideal S2048x2048 .bf16) (G U : FVec Ideal ⟨2, ![2048, 16384]⟩ .bf16) (W : FVec Ideal ⟨2, ![16384, 2048]⟩ .bf16)
    (hm : ∀ e : Dev nD, m ((e : Thread nD τ).loc main_arg0) = X
      ∧ m ((e : Thread nD τ).loc main_arg1) = Layout.block ⟨2, ![2048, 4096]⟩ ⟨2, ![2048, 16384]⟩ 1 4 e G
      ∧ m ((e : Thread nD τ).loc main_arg2) = Layout.block ⟨2, ![2048, 4096]⟩ ⟨2, ![2048, 16384]⟩ 1 4 e U
      ∧ m ((e : Thread nD τ).loc main_arg3) = Layout.block ⟨2, ![4096, 2048]⟩ ⟨2, ![16384, 2048]⟩ 0 4 e W) :
    g = refOut X G U W := by
  funext y
  rw [show y = ix2 (y 0) (y 1) from eq_ix2 (n0 := 2048) (n1 := 2048) y]
  have sums (r b : Fin 2048) : (∑ e : Dev nD, ∑ h : Fin 4096, share m e r b h : EReal) = ∑ H : Fin 16384,
      unit (fun q : Fin 2048 => X (ix2 r q)) (fun q => G (ix2 q H)) (fun q => U (ix2 q H)) (W (ix2 H b)) := by
    rw [← sum_units]
    refine Finset.sum_congr rfl fun e _ => Finset.sum_congr rfl fun h _ => ?_
    exact share_block m e _ _ h X G U W (hm e).1 (hm e).2.1 (hm e).2.2.1 (hm e).2.2.2 _
      (by rw [finProdFinEquiv_apply_val]; dsimp only; omega)
  exact (res_apply m c g hg (y 0) (y 1)).trans ((sums _ _).trans (refOut_apply X G U W (y 0) (y 1)).symm)

/-- The value claim. -/
theorem algebraic : Cert.algebraic_KernelIdeal_ReferenceIdeal := fun m ρ m' ρ' _ hm =>
  ⟨refOut (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)),
    (θ_run Cert.KernelIdeal.defs _ _).mono (fun _ h c => ⟨res_eq m c _ (h.1 c).2 _ _ _ _ hm, (h.1 c).1⟩) (run_left (F := Ideal) m ρ),
    (θ_run Cert.ReferenceIdeal.defs _ _).mono (fun _ h => h 0) (Cert.ReferenceIdeal.Value.run (F := Ideal) m' ρ')⟩

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.K.frame_bits, Cert.K.frame_ideal, Cert.K.frame_ref, trivial, Cert.K.algebraic⟩

end Cert.Proof

end
